-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tied_and_decided [hPre_tied_and_decided : Cert.Pre_tied_and_decided.Facts] (m : (ℓ : Loc Cert.KernelIdeal.nD Cert.KernelIdeal.τ Cert.KernelIdeal.sig) → Buf (Elt Ideal) ℓ) : Prop :=
  ∀ c : Dev Cert.KernelIdeal.nD,
    (Cert.Pre_tied_and_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_tied_and_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tied_and_decided [hPre_tied_and_decided : Cert.Pre_tied_and_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tied_and_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_tied_and_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tied_and_decided [hKernelIdeal : Cert.KernelIdeal.Facts] [hPre_tied_and_decided : Cert.Pre_tied_and_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tied_and_decided m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tied_and_decided [hReferenceIdeal : Cert.ReferenceIdeal.Facts] [hPre_tied_and_decided : Cert.Pre_tied_and_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tied_and_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tied_and_decided [hKernelIdeal : Cert.KernelIdeal.Facts] [hReferenceIdeal : Cert.ReferenceIdeal.Facts] [hPre_tied_and_decided : Cert.Pre_tied_and_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tied_and_decided m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tied_and_decided : Cert.Pre_tied_and_decided.Facts),
    quiescent_Kernel (hKernel := hKernel)
    ∧ quiescent_KernelIdeal (hKernelIdeal := hKernelIdeal)
    ∧ quiescent_KernelIdeal_pre_tied_and_decided (hKernelIdeal := hKernelIdeal) (hPre_tied_and_decided := hPre_tied_and_decided)
    ∧ quiescent_ReferenceIdeal (hReferenceIdeal := hReferenceIdeal)
    ∧ quiescent_ReferenceIdeal_pre_tied_and_decided (hReferenceIdeal := hReferenceIdeal) (hPre_tied_and_decided := hPre_tied_and_decided)
    ∧ preserves_Kernel_KernelIdeal
    ∧ algebraic_KernelIdeal_ReferenceIdeal_pre_tied_and_decided (hKernelIdeal := hKernelIdeal) (hReferenceIdeal := hReferenceIdeal) (hPre_tied_and_decided := hPre_tied_and_decided)
-- ==== Pre_tied_and_decided.lean ====
abbrev S8192x768 : Shape := ⟨2, ![8192, 768]⟩
abbrev S6144x768 : Shape := ⟨2, ![6144, 768]⟩
abbrev S6144 : Shape := ⟨1, ![6144]⟩
abbrev S768x6144 : Shape := ⟨2, ![768, 6144]⟩
abbrev S768 : Shape := ⟨1, ![768]⟩
abbrev S8192x6144 : Shape := ⟨2, ![8192, 6144]⟩
abbrev S1x6144 : Shape := ⟨2, ![1, 6144]⟩
abbrev S8192x64 : Shape := ⟨2, ![8192, 64]⟩
abbrev S8192x1 : Shape := ⟨2, ![8192, 1]⟩
abbrev S253 : Shape := ⟨1, ![253]⟩
abbrev S_ : Shape := ⟨0, ![]⟩
abbrev S1x253 : Shape := ⟨2, ![1, 253]⟩
abbrev S8192x253 : Shape := ⟨2, ![8192, 253]⟩
abbrev S8192 : Shape := ⟨1, ![8192]⟩

class Facts : Prop where
  transposes_S6144x768_S768x6144_1_0 : S6144x768.Transposes [1, 0] S768x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  sliceFits_S8192x6144_S8192x64 : S8192x6144.Slices (fun _ => 0) S8192x64
  slices_S8192x64_S8192x1_0_63 : S8192x64.Slices ![0, 63] S8192x1
  bcast_S_S253 : S_.BroadcastsInDim S253 (![] : Fin 0 → Fin S253.rank)
  bcast_S253_S1x253_1 : S253.BroadcastsInDim S1x253 (![1] : Fin 1 → Fin S1x253.rank)
  bcast_S8192x1_S8192x253_0_1 : S8192x1.BroadcastsInDim S8192x253 (![0, 1] : Fin 2 → Fin S8192x253.rank)
  bcast_S1x253_S8192x253_0_1 : S1x253.BroadcastsInDim S8192x253 (![0, 1] : Fin 2 → Fin S8192x253.rank)
  natLt_1_32 : 1 < 32
  reducesTo_S8192x253_S8192_d1 : S8192x253.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x6144_0_1 : S8192x1.BroadcastsInDim S8192x6144 (![0, 1] : Fin 2 → Fin S8192x6144.rank)
  reducesTo_S8192x6144_S8192_d1 : S8192x6144.ReducesTo [1] S8192
  slices_S8192x6144_S8192x768_0_0 : S8192x6144.Slices ![0, 0] S8192x768
  reducesTo_S8192x768_S8192_d1 : S8192x768.ReducesTo [1] S8192
  dot_S8192x768_S768x6144_S8192x6144_1_0_0_1_n_n_wf : DotDims.WF S8192x768 S768x6144 S8192x6144 [1] [0] [0] [1] [] []

variable [Facts]

def dot_S8192x768_S768x6144_S8192x6144_1_0_0_1_n_n : DotDims S8192x768 S768x6144 S8192x6144 where
  lhsContracting := [1]
  rhsContracting := [0]
  lhsNonContracting := [0]
  rhsNonContracting := [1]
  lhsBatch := []
  rhsBatch := []
  wf := dot_S8192x768_S768x6144_S8192x6144_1_0_0_1_n_n_wf
def fn_where {F : FTy → Type} [FloatOps F] (arg0 : IVec S8192x1 1) (arg1 : IVec S8192x1 32) (arg2 : IVec S8192x1 32) : IVec S8192x1 32 :=
  let v0 : IVec S8192x1 32 := select arg0 arg1 arg2
  v0

def fn_where_0 {F : FTy → Type} [FloatOps F] (arg0 : IVec S8192x1 1) (arg1 : FVec F S8192x1 .f32) (arg2 : FVec F S8192x1 .f32) : FVec F S8192x1 .f32 :=
  let v0 : FVec F S8192x1 .f32 := select arg0 arg1 arg2
  v0

def fn_where_1 {F : FTy → Type} [FloatOps F] (arg0 : IVec S8192x1 1) (arg1 : FVec F S8192x1 .f32) (arg2 : FVec F S_ .f32) : FVec F S8192x1 .f32 :=
  let v0 : FVec F S_ .f32 := id arg2
  let v1 : FVec F S8192x1 .f32 := broadcastInDim S8192x1 ![] bcast_S_S8192x1 v0
  let v2 : FVec F S8192x1 .f32 := select arg0 arg1 v1
  v2

def fn_where_2 {F : FTy → Type} [FloatOps F] (arg0 : IVec S8192x1 1) (arg1 : FVec F S_ .f32) (arg2 : FVec F S8192x1 .f32) : FVec F S8192x1 .f32 :=
  let v0 : FVec F S_ .f32 := id arg1
  let v1 : FVec F S8192x1 .f32 := broadcastInDim S8192x1 ![] bcast_S_S8192x1 v0
  let v2 : FVec F S8192x1 .f32 := select arg0 v1 arg2
  v2

def fn_turn_part3 {F : FTy → Type} [FloatOps F] (arg6 : FVec F S8192x1 .f32) (v27 : IVec S8192x1 1) (v30 : IVec S8192x1 1) (v51 : FVec F S8192x1 .f32) (v52 : FVec F S8192x1 .f32) (v53 : FVec F S8192x1 .f32) (v54 : FVec F S8192x1 .f32) (v55 : FVec F S8192x1 .f32) (cst_14 : FVec F S_ .f32) : FVec F S8192x1 .f32 × FVec F S8192x1 .f32 × FVec F S8192x1 .f32 × FVec F S8192x1 .f32 × FVec F S8192x1 .f32 × FVec F S8192x1 .f32 :=
  let v56 : FVec F S8192x1 .f32 := fn_where_2 (F := F) v30 cst_14 arg6
  let cst_15 : FVec F S_ .f32 := constant S_ .f32 0x3F800000#32
  let v57 : FVec F S8192x1 .f32 := fn_where_2 (F := F) v27 cst_15 v56
  (v51, v52, v53, v54, v55, v57)

def fn_turn_part2 {F : FTy → Type} [FloatOps F] (arg1 : FVec F S8192x1 .f32) (arg2 : FVec F S8192x1 .f32) (arg3 : FVec F S8192x1 .f32) (arg4 : FVec F S8192x1 .f32) (arg5 : FVec F S8192x1 .f32) (arg6 : FVec F S8192x1 .f32) (v13 : FVec F S8192x1 .f32) (v18 : FVec F S8192x1 .f32) (v24 : IVec S8192x1 1) (v27 : IVec S8192x1 1) (v30 : IVec S8192x1 1) (v33 : IVec S8192x1 1) (v37 : FVec F S8192x1 .f32) : FVec F S8192x1 .f32 × FVec F S8192x1 .f32 × FVec F S8192x1 .f32 × FVec F S8192x1 .f32 × FVec F S8192x1 .f32 × FVec F S8192x1 .f32 :=
  let cst_9 : FVec F S_ .f32 := constant S_ .f32 0x42800000#32
  let v38 : FVec F S8192x1 .f32 := broadcastInDim S8192x1 ![] bcast_S_S8192x1 cst_9
  let v39 : FVec F S8192x1 .f32 := addf v38 v37
  let v40 : FVec F S8192x1 .f32 := fn_where_0 (F := F) v33 v39 arg4
  let cst_10 : FVec F S_ .f32 := constant S_ .f32 0xBF800000#32
  let v41 : FVec F S8192x1 .f32 := broadcastInDim S8192x1 ![] bcast_S_S8192x1 cst_10
  let v42 : IVec S8192x1 1 := cmpf .oeq arg6 v41
  let v43 : IVec S8192x1 1 := andi v30 v42
  let cst_11 : FVec F S_ .f32 := constant S_ .f32 0x42800000#32
  let v44 : FVec F S8192x1 .f32 := broadcastInDim S8192x1 ![] bcast_S_S8192x1 cst_11
  let v45 : FVec F S8192x1 .f32 := subf arg2 v44
  let cst_12 : FVec F S_ .f32 := constant S_ .f32 0x3F000000#32
  let v46 : FVec F S8192x1 .f32 := broadcastInDim S8192x1 ![] bcast_S_S8192x1 cst_12
  let v47 : FVec F S8192x1 .f32 := mulf v45 v46
  let cst_13 : FVec F S_ .f32 := constant S_ .f32 0x42800000#32
  let v48 : FVec F S8192x1 .f32 := broadcastInDim S8192x1 ![] bcast_S_S8192x1 cst_13
  let v49 : FVec F S8192x1 .f32 := addf v48 v47
  let v50 : FVec F S8192x1 .f32 := fn_where_0 (F := F) v43 v49 arg2
  let v51 : FVec F S8192x1 .f32 := fn_where_0 (F := F) v27 v13 arg1
  let v52 : FVec F S8192x1 .f32 := fn_where_0 (F := F) v27 v18 v50
  let v53 : FVec F S8192x1 .f32 := fn_where_0 (F := F) v30 v13 arg3
  let v54 : FVec F S8192x1 .f32 := fn_where_0 (F := F) v30 v18 v40
  let v55 : FVec F S8192x1 .f32 := fn_where_0 (F := F) v24 v18 arg5
  let cst_14 : FVec F S_ .f32 := constant S_ .f32 0xBF800000#32
  fn_turn_part3 (F := F) arg6 v27 v30 v51 v52 v53 v54 v55 cst_14

def fn_turn_part1 {F : FTy → Type} [FloatOps F] (arg1 : FVec F S8192x1 .f32) (arg2 : FVec F S8192x1 .f32) (arg3 : FVec F S8192x1 .f32) (arg4 : FVec F S8192x1 .f32) (arg5 : FVec F S8192x1 .f32) (arg6 : FVec F S8192x1 .f32) (v13 : FVec F S8192x1 .f32) (v18 : FVec F S8192x1 .f32) (v19 : FVec F S8192x1 .f32) : FVec F S8192x1 .f32 × FVec F S8192x1 .f32 × FVec F S8192x1 .f32 × FVec F S8192x1 .f32 × FVec F S8192x1 .f32 × FVec F S8192x1 .f32 :=
  let v20 : FVec F S8192x1 .f32 := subf arg5 v19
  let v21 : FVec F S8192x1 .f32 := Host.absf v20
  let cst_3 : FVec F S_ .f32 := constant S_ .f32 0x3F800000#32
  let v22 : FVec F S8192x1 .f32 := broadcastInDim S8192x1 ![] bcast_S_S8192x1 cst_3
  let v23 : IVec S8192x1 1 := cmpf .ole v21 v22
  let v24 : IVec S8192x1 1 := noti v23
  let cst_4 : FVec F S_ .f32 := constant S_ .f32 0x42800000#32
  let v25 : FVec F S8192x1 .f32 := broadcastInDim S8192x1 ![] bcast_S_S8192x1 cst_4
  let v26 : IVec S8192x1 1 := cmpf .ogt v18 v25
  let v27 : IVec S8192x1 1 := andi v24 v26
  let cst_5 : FVec F S_ .f32 := constant S_ .f32 0x42800000#32
  let v28 : FVec F S8192x1 .f32 := broadcastInDim S8192x1 ![] bcast_S_S8192x1 cst_5
  let v29 : IVec S8192x1 1 := cmpf .olt v18 v28
  let v30 : IVec S8192x1 1 := andi v24 v29
  let cst_6 : FVec F S_ .f32 := constant S_ .f32 0x3F800000#32
  let v31 : FVec F S8192x1 .f32 := broadcastInDim S8192x1 ![] bcast_S_S8192x1 cst_6
  let v32 : IVec S8192x1 1 := cmpf .oeq arg6 v31
  let v33 : IVec S8192x1 1 := andi v27 v32
  let cst_7 : FVec F S_ .f32 := constant S_ .f32 0x42800000#32
  let v34 : FVec F S8192x1 .f32 := broadcastInDim S8192x1 ![] bcast_S_S8192x1 cst_7
  let v35 : FVec F S8192x1 .f32 := subf arg4 v34
  let cst_8 : FVec F S_ .f32 := constant S_ .f32 0x3F000000#32
  let v36 : FVec F S8192x1 .f32 := broadcastInDim S8192x1 ![] bcast_S_S8192x1 cst_8
  let v37 : FVec F S8192x1 .f32 := mulf v35 v36
  fn_turn_part2 (F := F) arg1 arg2 arg3 arg4 arg5 arg6 v13 v18 v24 v27 v30 v33 v37

def fn_turn {F : FTy → Type} [FloatOps F] (arg0 : FVec F S8192x6144 .f32) (arg1 : FVec F S8192x1 .f32) (arg2 : FVec F S8192x1 .f32) (arg3 : FVec F S8192x1 .f32) (arg4 : FVec F S8192x1 .f32) (arg5 : FVec F S8192x1 .f32) (arg6 : FVec F S8192x1 .f32) : FVec F S8192x1 .f32 × FVec F S8192x1 .f32 × FVec F S8192x1 .f32 × FVec F S8192x1 .f32 × FVec F S8192x1 .f32 × FVec F S8192x1 .f32 :=
  let cst : FVec F S_ .f32 := constant S_ .f32 0x42800000#32
  let v0 : FVec F S8192x1 .f32 := broadcastInDim S8192x1 ![] bcast_S_S8192x1 cst
  let v1 : FVec F S8192x1 .f32 := subf arg2 v0
  let v2 : FVec F S8192x1 .f32 := subf arg2 arg4
  let v3 : FVec F S8192x1 .f32 := Host.divf v1 v2
  let v4 : FVec F S8192x1 .f32 := subf arg3 arg1
  let v5 : FVec F S8192x1 .f32 := mulf v3 v4
  let v6 : FVec F S8192x1 .f32 := addf arg1 v5
  let v7 : IVec S8192x1 1 := cmpf .ogt v6 arg1
  let v8 : IVec S8192x1 1 := cmpf .olt v6 arg3
  let v9 : IVec S8192x1 1 := andi v7 v8
  let v10 : FVec F S8192x1 .f32 := addf arg1 arg3
  let cst_0 : FVec F S_ .f32 := constant S_ .f32 0x3F000000#32
  let v11 : FVec F S8192x1 .f32 := broadcastInDim S8192x1 ![] bcast_S_S8192x1 cst_0
  let v12 : FVec F S8192x1 .f32 := mulf v11 v10
  let v13 : FVec F S8192x1 .f32 := fn_where_0 (F := F) v9 v6 v12
  let v14 : FVec F S8192x6144 .f32 := broadcastInDim S8192x6144 ![0, 1] bcast_S8192x1_S8192x6144_0_1 v13
  let v15 : IVec S8192x6144 1 := cmpf .oge arg0 v14
  let v16 : FVec F S8192x6144 .f32 := uitofp .f32 v15
  let cst_1 : FVec F S_ .f32 := constant S_ .f32 0x00000000#32
  let v17 : FVec F S8192 .f32 := (fun x v => Host.reduceAdd x v reducesTo_S8192x6144_S8192_d1 h_S_) v16 cst_1
  let v18 : FVec F S8192x1 .f32 := broadcastInDim S8192x1 ![0] bcast_S8192_S8192x1_0 v17
  let cst_2 : FVec F S_ .f32 := constant S_ .f32 0x42800000#32
  let v19 : FVec F S8192x1 .f32 := broadcastInDim S8192x1 ![] bcast_S_S8192x1 cst_2
  fn_turn_part1 (F := F) arg1 arg2 arg3 arg4 arg5 arg6 v13 v18 v19

def fn_two_turns {F : FTy → Type} [FloatOps F] (arg0 : FVec F S8192x6144 .f32) (arg1 : FVec F S8192x1 .f32) (arg2 : FVec F S8192x1 .f32) (arg3 : FVec F S8192x1 .f32) (arg4 : FVec F S8192x1 .f32) (arg5 : FVec F S8192x1 .f32) (arg6 : FVec F S8192x1 .f32) : FVec F S8192x1 .f32 × FVec F S8192x1 .f32 × FVec F S8192x1 .f32 × FVec F S8192x1 .f32 × FVec F S8192x1 .f32 × FVec F S8192x1 .f32 :=
  let v0_0 : FVec F S8192x1 .f32 := (fn_turn (F := F) arg0 arg1 arg2 arg3 arg4 arg5 arg6).1
  let v0_1 : FVec F S8192x1 .f32 := (fn_turn (F := F) arg0 arg1 arg2 arg3 arg4 arg5 arg6).2.1
  let v0_2 : FVec F S8192x1 .f32 := (fn_turn (F := F) arg0 arg1 arg2 arg3 arg4 arg5 arg6).2.2.1
  let v0_3 : FVec F S8192x1 .f32 := (fn_turn (F := F) arg0 arg1 arg2 arg3 arg4 arg5 arg6).2.2.2.1
  let v0_4 : FVec F S8192x1 .f32 := (fn_turn (F := F) arg0 arg1 arg2 arg3 arg4 arg5 arg6).2.2.2.2.1
  let v0_5 : FVec F S8192x1 .f32 := (fn_turn (F := F) arg0 arg1 arg2 arg3 arg4 arg5 arg6).2.2.2.2.2
  let v1_0 : FVec F S8192x1 .f32 := (fn_turn (F := F) arg0 v0_0 v0_1 v0_2 v0_3 v0_4 v0_5).1
  let v1_1 : FVec F S8192x1 .f32 := (fn_turn (F := F) arg0 v0_0 v0_1 v0_2 v0_3 v0_4 v0_5).2.1
  let v1_2 : FVec F S8192x1 .f32 := (fn_turn (F := F) arg0 v0_0 v0_1 v0_2 v0_3 v0_4 v0_5).2.2.1
  let v1_3 : FVec F S8192x1 .f32 := (fn_turn (F := F) arg0 v0_0 v0_1 v0_2 v0_3 v0_4 v0_5).2.2.2.1
  let v1_4 : FVec F S8192x1 .f32 := (fn_turn (F := F) arg0 v0_0 v0_1 v0_2 v0_3 v0_4 v0_5).2.2.2.2.1
  let v1_5 : FVec F S8192x1 .f32 := (fn_turn (F := F) arg0 v0_0 v0_1 v0_2 v0_3 v0_4 v0_5).2.2.2.2.2
  (v1_0, v1_1, v1_2, v1_3, v1_4, v1_5)

def fn_eight_turns {F : FTy → Type} [FloatOps F] (arg0 : FVec F S8192x6144 .f32) (arg1 : FVec F S8192x1 .f32) (arg2 : FVec F S8192x1 .f32) (arg3 : FVec F S8192x1 .f32) (arg4 : FVec F S8192x1 .f32) (arg5 : FVec F S8192x1 .f32) (arg6 : FVec F S8192x1 .f32) : FVec F S8192x1 .f32 × FVec F S8192x1 .f32 × FVec F S8192x1 .f32 × FVec F S8192x1 .f32 × FVec F S8192x1 .f32 × FVec F S8192x1 .f32 :=
  let v0_0 : FVec F S8192x1 .f32 := (fn_two_turns (F := F) arg0 arg1 arg2 arg3 arg4 arg5 arg6).1
  let v0_1 : FVec F S8192x1 .f32 := (fn_two_turns (F := F) arg0 arg1 arg2 arg3 arg4 arg5 arg6).2.1
  let v0_2 : FVec F S8192x1 .f32 := (fn_two_turns (F := F) arg0 arg1 arg2 arg3 arg4 arg5 arg6).2.2.1
  let v0_3 : FVec F S8192x1 .f32 := (fn_two_turns (F := F) arg0 arg1 arg2 arg3 arg4 arg5 arg6).2.2.2.1
  let v0_4 : FVec F S8192x1 .f32 := (fn_two_turns (F := F) arg0 arg1 arg2 arg3 arg4 arg5 arg6).2.2.2.2.1
  let v0_5 : FVec F S8192x1 .f32 := (fn_two_turns (F := F) arg0 arg1 arg2 arg3 arg4 arg5 arg6).2.2.2.2.2
  let v1_0 : FVec F S8192x1 .f32 := (fn_two_turns (F := F) arg0 v0_0 v0_1 v0_2 v0_3 v0_4 v0_5).1
  let v1_1 : FVec F S8192x1 .f32 := (fn_two_turns (F := F) arg0 v0_0 v0_1 v0_2 v0_3 v0_4 v0_5).2.1
  let v1_2 : FVec F S8192x1 .f32 := (fn_two_turns (F := F) arg0 v0_0 v0_1 v0_2 v0_3 v0_4 v0_5).2.2.1
  let v1_3 : FVec F S8192x1 .f32 := (fn_two_turns (F := F) arg0 v0_0 v0_1 v0_2 v0_3 v0_4 v0_5).2.2.2.1
  let v1_4 : FVec F S8192x1 .f32 := (fn_two_turns (F := F) arg0 v0_0 v0_1 v0_2 v0_3 v0_4 v0_5).2.2.2.2.1
  let v1_5 : FVec F S8192x1 .f32 := (fn_two_turns (F := F) arg0 v0_0 v0_1 v0_2 v0_3 v0_4 v0_5).2.2.2.2.2
  let v2_0 : FVec F S8192x1 .f32 := (fn_two_turns (F := F) arg0 v1_0 v1_1 v1_2 v1_3 v1_4 v1_5).1
  let v2_1 : FVec F S8192x1 .f32 := (fn_two_turns (F := F) arg0 v1_0 v1_1 v1_2 v1_3 v1_4 v1_5).2.1
  let v2_2 : FVec F S8192x1 .f32 := (fn_two_turns (F := F) arg0 v1_0 v1_1 v1_2 v1_3 v1_4 v1_5).2.2.1
  let v2_3 : FVec F S8192x1 .f32 := (fn_two_turns (F := F) arg0 v1_0 v1_1 v1_2 v1_3 v1_4 v1_5).2.2.2.1
  let v2_4 : FVec F S8192x1 .f32 := (fn_two_turns (F := F) arg0 v1_0 v1_1 v1_2 v1_3 v1_4 v1_5).2.2.2.2.1
  let v2_5 : FVec F S8192x1 .f32 := (fn_two_turns (F := F) arg0 v1_0 v1_1 v1_2 v1_3 v1_4 v1_5).2.2.2.2.2
  let v3_0 : FVec F S8192x1 .f32 := (fn_two_turns (F := F) arg0 v2_0 v2_1 v2_2 v2_3 v2_4 v2_5).1
  let v3_1 : FVec F S8192x1 .f32 := (fn_two_turns (F := F) arg0 v2_0 v2_1 v2_2 v2_3 v2_4 v2_5).2.1
  let v3_2 : FVec F S8192x1 .f32 := (fn_two_turns (F := F) arg0 v2_0 v2_1 v2_2 v2_3 v2_4 v2_5).2.2.1
  let v3_3 : FVec F S8192x1 .f32 := (fn_two_turns (F := F) arg0 v2_0 v2_1 v2_2 v2_3 v2_4 v2_5).2.2.2.1
  let v3_4 : FVec F S8192x1 .f32 := (fn_two_turns (F := F) arg0 v2_0 v2_1 v2_2 v2_3 v2_4 v2_5).2.2.2.2.1
  let v3_5 : FVec F S8192x1 .f32 := (fn_two_turns (F := F) arg0 v2_0 v2_1 v2_2 v2_3 v2_4 v2_5).2.2.2.2.2
  (v3_0, v3_1, v3_2, v3_3, v3_4, v3_5)

def fn_search_part3 {F : FTy → Type} [FloatOps F] (arg0 : FVec F S8192x6144 .f32) (v41_0 : FVec F S8192x1 .f32) (v41_1 : FVec F S8192x1 .f32) (v41_2 : FVec F S8192x1 .f32) (v41_3 : FVec F S8192x1 .f32) (v41_4 : FVec F S8192x1 .f32) (v41_5 : FVec F S8192x1 .f32) : FVec F S8192x1 .f32 :=
  let v42_0 : FVec F S8192x1 .f32 := (fn_two_turns (F := F) arg0 v41_0 v41_1 v41_2 v41_3 v41_4 v41_5).1
  let v42_1 : FVec F S8192x1 .f32 := (fn_two_turns (F := F) arg0 v41_0 v41_1 v41_2 v41_3 v41_4 v41_5).2.1
  let v42_2 : FVec F S8192x1 .f32 := (fn_two_turns (F := F) arg0 v41_0 v41_1 v41_2 v41_3 v41_4 v41_5).2.2.1
  let v42_3 : FVec F S8192x1 .f32 := (fn_two_turns (F := F) arg0 v41_0 v41_1 v41_2 v41_3 v41_4 v41_5).2.2.2.1
  let v42_4 : FVec F S8192x1 .f32 := (fn_two_turns (F := F) arg0 v41_0 v41_1 v41_2 v41_3 v41_4 v41_5).2.2.2.2.1
  let v42_5 : FVec F S8192x1 .f32 := (fn_two_turns (F := F) arg0 v41_0 v41_1 v41_2 v41_3 v41_4 v41_5).2.2.2.2.2
  v42_4

def fn_search_part2 {F : FTy → Type} [FloatOps F] (arg0 : FVec F S8192x6144 .f32) (v22 : FVec F S8192x1 .f32) (v25 : FVec F S8192x1 .f32) (v28 : FVec F S8192x1 .f32) (v34 : FVec F S8192x1 .f32) (cst_11 : FVec F S_ .f32) : FVec F S8192x1 .f32 :=
  let v35 : FVec F S8192x1 .f32 := broadcastInDim S8192x1 ![] bcast_S_S8192x1 cst_11
  let v36 : IVec S8192x1 1 := cmpf .olt v22 v35
  let cst_12 : FVec F S_ .f32 := constant S_ .f32 0x00000000#32
  let v37 : FVec F S8192x1 .f32 := fn_where_1 (F := F) v36 v22 cst_12
  let cst_13 : FVec F S_ .f32 := constant S_ .f32 0x00000000#32
  let v38 : FVec F S8192x1 .f32 := broadcastInDim S8192x1 ![] bcast_S_S8192x1 cst_13
  let v39_0 : FVec F S8192x1 .f32 := (fn_eight_turns (F := F) arg0 v25 v28 v34 v37 v22 v38).1
  let v39_1 : FVec F S8192x1 .f32 := (fn_eight_turns (F := F) arg0 v25 v28 v34 v37 v22 v38).2.1
  let v39_2 : FVec F S8192x1 .f32 := (fn_eight_turns (F := F) arg0 v25 v28 v34 v37 v22 v38).2.2.1
  let v39_3 : FVec F S8192x1 .f32 := (fn_eight_turns (F := F) arg0 v25 v28 v34 v37 v22 v38).2.2.2.1
  let v39_4 : FVec F S8192x1 .f32 := (fn_eight_turns (F := F) arg0 v25 v28 v34 v37 v22 v38).2.2.2.2.1
  let v39_5 : FVec F S8192x1 .f32 := (fn_eight_turns (F := F) arg0 v25 v28 v34 v37 v22 v38).2.2.2.2.2
  let v40_0 : FVec F S8192x1 .f32 := (fn_eight_turns (F := F) arg0 v39_0 v39_1 v39_2 v39_3 v39_4 v39_5).1
  let v40_1 : FVec F S8192x1 .f32 := (fn_eight_turns (F := F) arg0 v39_0 v39_1 v39_2 v39_3 v39_4 v39_5).2.1
  let v40_2 : FVec F S8192x1 .f32 := (fn_eight_turns (F := F) arg0 v39_0 v39_1 v39_2 v39_3 v39_4 v39_5).2.2.1
  let v40_3 : FVec F S8192x1 .f32 := (fn_eight_turns (F := F) arg0 v39_0 v39_1 v39_2 v39_3 v39_4 v39_5).2.2.2.1
  let v40_4 : FVec F S8192x1 .f32 := (fn_eight_turns (F := F) arg0 v39_0 v39_1 v39_2 v39_3 v39_4 v39_5).2.2.2.2.1
  let v40_5 : FVec F S8192x1 .f32 := (fn_eight_turns (F := F) arg0 v39_0 v39_1 v39_2 v39_3 v39_4 v39_5).2.2.2.2.2
  let v41_0 : FVec F S8192x1 .f32 := (fn_eight_turns (F := F) arg0 v40_0 v40_1 v40_2 v40_3 v40_4 v40_5).1
  let v41_1 : FVec F S8192x1 .f32 := (fn_eight_turns (F := F) arg0 v40_0 v40_1 v40_2 v40_3 v40_4 v40_5).2.1
  let v41_2 : FVec F S8192x1 .f32 := (fn_eight_turns (F := F) arg0 v40_0 v40_1 v40_2 v40_3 v40_4 v40_5).2.2.1
  let v41_3 : FVec F S8192x1 .f32 := (fn_eight_turns (F := F) arg0 v40_0 v40_1 v40_2 v40_3 v40_4 v40_5).2.2.2.1
  let v41_4 : FVec F S8192x1 .f32 := (fn_eight_turns (F := F) arg0 v40_0 v40_1 v40_2 v40_3 v40_4 v40_5).2.2.2.2.1
  let v41_5 : FVec F S8192x1 .f32 := (fn_eight_turns (F := F) arg0 v40_0 v40_1 v40_2 v40_3 v40_4 v40_5).2.2.2.2.2
  fn_search_part3 (F := F) arg0 v41_0 v41_1 v41_2 v41_3 v41_4 v41_5

def fn_search_part1 {F : FTy → Type} [FloatOps F] (arg0 : FVec F S8192x6144 .f32) (v4 : FVec F S8192x1 .f32) (v14 : FVec F S8192x1 .f32) (v17 : FVec F S8192x1 .f32) : FVec F S8192x1 .f32 :=
  let v18 : FVec F S8192x6144 .f32 := broadcastInDim S8192x6144 ![0, 1] bcast_S8192x1_S8192x6144_0_1 v17
  let v19 : IVec S8192x6144 1 := cmpf .oge arg0 v18
  let v20 : FVec F S8192x6144 .f32 := uitofp .f32 v19
  let cst_5 : FVec F S_ .f32 := constant S_ .f32 0x00000000#32
  let v21 : FVec F S8192 .f32 := (fun x v => Host.reduceAdd x v reducesTo_S8192x6144_S8192_d1 h_S_) v20 cst_5
  let v22 : FVec F S8192x1 .f32 := broadcastInDim S8192x1 ![0] bcast_S8192_S8192x1_0 v21
  let cst_6 : FVec F S_ .f32 := constant S_ .f32 0x42800000#32
  let v23 : FVec F S8192x1 .f32 := broadcastInDim S8192x1 ![] bcast_S_S8192x1 cst_6
  let v24 : IVec S8192x1 1 := cmpf .ogt v22 v23
  let v25 : FVec F S8192x1 .f32 := fn_where_0 (F := F) v24 v17 v4
  let cst_7 : FVec F S_ .f32 := constant S_ .f32 0x42800000#32
  let v26 : FVec F S8192x1 .f32 := broadcastInDim S8192x1 ![] bcast_S_S8192x1 cst_7
  let v27 : IVec S8192x1 1 := cmpf .ogt v22 v26
  let cst_8 : FVec F S_ .f32 := constant S_ .f32 0x45400000#32
  let v28 : FVec F S8192x1 .f32 := fn_where_1 (F := F) v27 v22 cst_8
  let cst_9 : FVec F S_ .f32 := constant S_ .f32 0x42800000#32
  let v29 : FVec F S8192x1 .f32 := broadcastInDim S8192x1 ![] bcast_S_S8192x1 cst_9
  let v30 : IVec S8192x1 1 := cmpf .olt v22 v29
  let cst_10 : FVec F S_ .f32 := constant S_ .f32 0x40A00000#32
  let v31 : FVec F S8192x1 .f32 := broadcastInDim S8192x1 ![] bcast_S_S8192x1 cst_10
  let v32 : FVec F S8192x1 .f32 := mulf v14 v31
  let v33 : FVec F S8192x1 .f32 := addf v4 v32
  let v34 : FVec F S8192x1 .f32 := fn_where_0 (F := F) v30 v17 v33
  let cst_11 : FVec F S_ .f32 := constant S_ .f32 0x42800000#32
  fn_search_part2 (F := F) arg0 v22 v25 v28 v34 cst_11

def fn_search {F : FTy → Type} [FloatOps F] (arg0 : FVec F S8192x6144 .f32) : FVec F S8192x1 .f32 :=
  let v0 : FVec F S8192x768 .f32 := (extractStridedSlice S8192x768 ![0, 0] · slices_S8192x6144_S8192x768_0_0) arg0
  let cst : FVec F S_ .f32 := constant S_ .f32 0x00000000#32
  let v1 : FVec F S8192 .f32 := (fun x v => Host.reduceAdd x v reducesTo_S8192x768_S8192_d1 h_S_) v0 cst
  let v2 : FVec F S8192x1 .f32 := broadcastInDim S8192x1 ![0] bcast_S8192_S8192x1_0 v1
  let cst_0 : FVec F S_ .f32 := constant S_ .f32 0x3AAAAAAB#32
  let v3 : FVec F S8192x1 .f32 := broadcastInDim S8192x1 ![] bcast_S_S8192x1 cst_0
  let v4 : FVec F S8192x1 .f32 := mulf v2 v3
  let v5 : FVec F S8192x768 .f32 := mulf v0 v0
  let cst_1 : FVec F S_ .f32 := constant S_ .f32 0x00000000#32
  let v6 : FVec F S8192 .f32 := (fun x v => Host.reduceAdd x v reducesTo_S8192x768_S8192_d1 h_S_) v5 cst_1
  let v7 : FVec F S8192x1 .f32 := broadcastInDim S8192x1 ![0] bcast_S8192_S8192x1_0 v6
  let cst_2 : FVec F S_ .f32 := constant S_ .f32 0x3AAAAAAB#32
  let v8 : FVec F S8192x1 .f32 := broadcastInDim S8192x1 ![] bcast_S_S8192x1 cst_2
  let v9 : FVec F S8192x1 .f32 := mulf v7 v8
  let v10 : FVec F S8192x1 .f32 := mulf v4 v4
  let v11 : FVec F S8192x1 .f32 := subf v9 v10
  let cst_3 : FVec F S_ .f32 := constant S_ .f32 0x00000000#32
  let v12 : FVec F S8192x1 .f32 := broadcastInDim S8192x1 ![] bcast_S_S8192x1 cst_3
  let v13 : FVec F S8192x1 .f32 := maximumf v11 v12
  let v14 : FVec F S8192x1 .f32 := Host.sqrt v13
  let cst_4 : FVec F S_ .f32 := constant S_ .f32 0x4013837B#32
  let v15 : FVec F S8192x1 .f32 := broadcastInDim S8192x1 ![] bcast_S_S8192x1 cst_4
  let v16 : FVec F S8192x1 .f32 := mulf v14 v15
  let v17 : FVec F S8192x1 .f32 := addf v4 v16
  fn_search_part1 (F := F) arg0 v4 v14 v17

def fn_part4 {F : FTy → Type} [FloatOps F] (main_v62 : IVec S8192x1 1) (main_v69 : IVec S8192x1 1) (main_v71 : IVec S768x6144 1) (main_v72 : FVec F S8192x1 .f32) (main_v73 : FVec F S8192x1 .f32) : IVec S768x6144 1 × IVec S8192x1 1 :=
  let main_v74 : FVec F S8192x1 .f32 := subf main_v72 main_v73
  let main_v75 : FVec F S8192x1 .f32 := Host.absf main_v74
  let main_cst_18 : FVec F S_ .f32 := constant S_ .f32 0x3F800000#32
  let main_v76 : FVec F S8192x1 .f32 := broadcastInDim S8192x1 ![] bcast_S_S8192x1 main_cst_18
  let main_v77 : IVec S8192x1 1 := cmpf .ole main_v75 main_v76
  let main_v78 : IVec S8192x1 1 := ori main_v62 main_v77
  let main_v79 : IVec S8192x1 1 := andi main_v69 main_v78
  (main_v71, main_v79)

def fn_part3 {F : FTy → Type} [FloatOps F] (main_arg1 : FVec F S6144x768 .f32) (main_arg3 : FVec F S768x6144 .f32) (main_v4 : FVec F S8192x6144 .f32) (main_v5 : FVec F S8192x1 .f32) (main_v50 : FVec F S8192x1 .f32) (main_v54 : IVec S8192x1 1) : IVec S768x6144 1 × IVec S8192x1 1 :=
  let main_v55 : FVec F S8192x6144 .f32 := broadcastInDim S8192x6144 ![0, 1] bcast_S8192x1_S8192x6144_0_1 main_v50
  let main_v56 : IVec S8192x6144 1 := cmpf .oge main_v4 main_v55
  let main_v57 : IVec S8192x6144 32 := (extui 32 · natLt_1_32) main_v56
  let main_c_13 : IVec S_ 32 := constantI S_ 32 0#32
  let main_v58 : IVec S8192 32 := (fun x v => Host.reduce IntOp.addi x v reducesTo_S8192x6144_S8192_d1 h_S_) main_v57 main_c_13
  let main_v59 : IVec S8192x1 32 := broadcastInDim S8192x1 ![0] bcast_S8192_S8192x1_0 main_v58
  let main_c_14 : IVec S_ 32 := constantI S_ 32 64#32
  let main_v60 : IVec S8192x1 32 := broadcastInDim S8192x1 ![] bcast_S_S8192x1 main_c_14
  let main_v61 : IVec S8192x1 1 := cmpi .eq main_v59 main_v60
  let main_v62 : IVec S8192x1 1 := andi main_v54 main_v61
  let main_v63 : FVec F S8192x6144 .f32 := broadcastInDim S8192x6144 ![0, 1] bcast_S8192x1_S8192x6144_0_1 main_v5
  let main_v64 : IVec S8192x6144 1 := cmpf .oge main_v4 main_v63
  let main_v65 : IVec S8192x6144 32 := (extui 32 · natLt_1_32) main_v64
  let main_c_15 : IVec S_ 32 := constantI S_ 32 0#32
  let main_v66 : IVec S8192 32 := (fun x v => Host.reduce IntOp.addi x v reducesTo_S8192x6144_S8192_d1 h_S_) main_v65 main_c_15
  let main_v67 : IVec S8192x1 32 := broadcastInDim S8192x1 ![0] bcast_S8192_S8192x1_0 main_v66
  let main_c_16 : IVec S_ 32 := constantI S_ 32 64#32
  let main_v68 : IVec S8192x1 32 := broadcastInDim S8192x1 ![] bcast_S_S8192x1 main_c_16
  let main_v69 : IVec S8192x1 1 := cmpi .eq main_v67 main_v68
  let main_v70 : FVec F S768x6144 .f32 := (transpose S768x6144 [1, 0] · transposes_S6144x768_S768x6144_1_0) main_arg1
  let main_v71 : IVec S768x6144 1 := cmpf .oeq main_arg3 main_v70
  let main_v72 : FVec F S8192x1 .f32 := fn_search (F := F) main_v4
  let main_cst_17 : FVec F S_ .f32 := constant S_ .f32 0x42800000#32
  let main_v73 : FVec F S8192x1 .f32 := broadcastInDim S8192x1 ![] bcast_S_S8192x1 main_cst_17
  fn_part4 (F := F) main_v62 main_v69 main_v71 main_v72 main_v73

def fn_part2 {F : FTy → Type} [FloatOps F] (main_arg1 : FVec F S6144x768 .f32) (main_arg3 : FVec F S768x6144 .f32) (main_v4 : FVec F S8192x6144 .f32) (main_v5 : FVec F S8192x1 .f32) (main_v19 : IVec S8192x1 32) (main_v28 : FVec F S8192x1 .f32) (main_v35 : IVec S8192x1 32) : IVec S768x6144 1 × IVec S8192x1 1 :=
  let main_v36 : FVec F S8192x1 .f32 := bitcastToFloat .f32 main_v35
  let main_v37 : FVec F S8192x1 .f32 := mulf main_v5 main_v28
  let main_v38 : FVec F S8192x1 .f32 := mulf main_v37 main_v36
  let main_v39 : FVec F S8192x1 .f32 := Host.floor main_v38
  let main_v40 : FVec F S8192x1 .f32 := Host.absf main_v39
  let main_v41 : IVec S8192x1 32 := fptosi 32 main_v40
  let main_c_9 : IVec S_ 32 := constantI S_ 32 23#32
  let main_v42 : IVec S8192x1 32 := broadcastInDim S8192x1 ![] bcast_S_S8192x1 main_c_9
  let main_v43 : IVec S8192x1 32 := Host.shli main_v19 main_v42
  let main_v44 : IVec S8192x1 32 := addi main_v43 main_v41
  let main_cst : FVec F S_ .f32 := constant S_ .f32 0x00000000#32
  let main_v45 : FVec F S8192x1 .f32 := broadcastInDim S8192x1 ![] bcast_S_S8192x1 main_cst
  let main_v46 : IVec S8192x1 1 := cmpf .olt main_v5 main_v45
  let main_c_10 : IVec S_ 32 := constantI S_ 32 2147483648#32
  let main_v47 : IVec S8192x1 32 := broadcastInDim S8192x1 ![] bcast_S_S8192x1 main_c_10
  let main_v48 : IVec S8192x1 32 := ori main_v44 main_v47
  let main_v49 : IVec S8192x1 32 := fn_where (F := F) main_v46 main_v48 main_v44
  let main_v50 : FVec F S8192x1 .f32 := bitcastToFloat .f32 main_v49
  let main_c_11 : IVec S_ 32 := constantI S_ 32 2147483647#32
  let main_v51 : IVec S8192x1 32 := broadcastInDim S8192x1 ![] bcast_S_S8192x1 main_c_11
  let main_v52 : IVec S8192x1 32 := andi main_v49 main_v51
  let main_c_12 : IVec S_ 32 := constantI S_ 32 2139095040#32
  let main_v53 : IVec S8192x1 32 := broadcastInDim S8192x1 ![] bcast_S_S8192x1 main_c_12
  let main_v54 : IVec S8192x1 1 := cmpi .slt main_v52 main_v53
  fn_part3 (F := F) main_arg1 main_arg3 main_v4 main_v5 main_v50 main_v54

def fn_part1 {F : FTy → Type} [FloatOps F] (main_arg1 : FVec F S6144x768 .f32) (main_arg3 : FVec F S768x6144 .f32) (main_v4 : FVec F S8192x6144 .f32) (main_v5 : FVec F S8192x1 .f32) (main_v18 : IVec S8192 32) : IVec S768x6144 1 × IVec S8192x1 1 :=
  let main_v19 : IVec S8192x1 32 := broadcastInDim S8192x1 ![0] bcast_S8192_S8192x1_0 main_v18
  let main_c_2 : IVec S_ 32 := constantI S_ 32 149#32
  let main_v20 : IVec S8192x1 32 := broadcastInDim S8192x1 ![] bcast_S_S8192x1 main_c_2
  let main_v21 : IVec S8192x1 32 := subi main_v20 main_v19
  let main_c_3 : IVec S_ 32 := constantI S_ 32 1#32
  let main_v22 : IVec S8192x1 32 := broadcastInDim S8192x1 ![] bcast_S_S8192x1 main_c_3
  let main_v23 : IVec S8192x1 32 := Host.shrsi main_v21 main_v22
  let main_c_4 : IVec S_ 32 := constantI S_ 32 127#32
  let main_v24 : IVec S8192x1 32 := broadcastInDim S8192x1 ![] bcast_S_S8192x1 main_c_4
  let main_v25 : IVec S8192x1 32 := addi main_v23 main_v24
  let main_c_5 : IVec S_ 32 := constantI S_ 32 23#32
  let main_v26 : IVec S8192x1 32 := broadcastInDim S8192x1 ![] bcast_S_S8192x1 main_c_5
  let main_v27 : IVec S8192x1 32 := Host.shli main_v25 main_v26
  let main_v28 : FVec F S8192x1 .f32 := bitcastToFloat .f32 main_v27
  let main_c_6 : IVec S_ 32 := constantI S_ 32 149#32
  let main_v29 : IVec S8192x1 32 := broadcastInDim S8192x1 ![] bcast_S_S8192x1 main_c_6
  let main_v30 : IVec S8192x1 32 := subi main_v29 main_v19
  let main_v31 : IVec S8192x1 32 := subi main_v30 main_v23
  let main_c_7 : IVec S_ 32 := constantI S_ 32 127#32
  let main_v32 : IVec S8192x1 32 := broadcastInDim S8192x1 ![] bcast_S_S8192x1 main_c_7
  let main_v33 : IVec S8192x1 32 := addi main_v31 main_v32
  let main_c_8 : IVec S_ 32 := constantI S_ 32 23#32
  let main_v34 : IVec S8192x1 32 := broadcastInDim S8192x1 ![] bcast_S_S8192x1 main_c_8
  let main_v35 : IVec S8192x1 32 := Host.shli main_v33 main_v34
  fn_part2 (F := F) main_arg1 main_arg3 main_v4 main_v5 main_v19 main_v28 main_v35

def fn {F : FTy → Type} [FloatOps F] (main_arg0 : FVec F S8192x768 .f32) (main_arg1 : FVec F S6144x768 .f32) (main_arg2 : FVec F S6144 .f32) (main_arg3 : FVec F S768x6144 .f32) (main_arg4 : FVec F S768 .f32) : IVec S768x6144 1 × IVec S8192x1 1 :=
  let main_v0 : FVec F S768x6144 .f32 := (transpose S768x6144 [1, 0] · transposes_S6144x768_S768x6144_1_0) main_arg1
  let main_v1 : FVec F S8192x6144 .f32 := (fun l r => Host.dotGeneral dot_S8192x768_S768x6144_S8192x6144_1_0_0_1_n_n none l r) main_arg0 main_v0
  let main_v2 : FVec F S1x6144 .f32 := broadcastInDim S1x6144 ![1] bcast_S6144_S1x6144_1 main_arg2
  let main_v3 : FVec F S8192x6144 .f32 := broadcastInDim S8192x6144 ![0, 1] bcast_S1x6144_S8192x6144_0_1 main_v2
  let main_v4 : FVec F S8192x6144 .f32 := addf main_v1 main_v3
  let main_values : FVec F S8192x64 .f32 := (fun x => (Host.topK S8192x64 1 (FloatOps.cmpfTotal .gt) x sliceFits_S8192x6144_S8192x64).1) main_v4
  let main_indices : IVec S8192x64 32 := (fun x => (Host.topK S8192x64 1 (FloatOps.cmpfTotal .gt) x sliceFits_S8192x6144_S8192x64).2) main_v4
  let main_v5 : FVec F S8192x1 .f32 := (extractStridedSlice S8192x1 ![0, 63] · slices_S8192x64_S8192x1_0_63) main_values
  let main_v6 : FVec F S8192x1 .f32 := Host.absf main_v5
  let main_v7 : IVec S253 32 := iotaInDim S253 32 0
  let main_c : IVec S_ 32 := constantI S_ 32 2#32
  let main_v8 : IVec S253 32 := broadcastInDim S253 ![] bcast_S_S253 main_c
  let main_v9 : IVec S253 32 := addi main_v8 main_v7
  let main_c_0 : IVec S_ 32 := constantI S_ 32 23#32
  let main_v10 : IVec S253 32 := broadcastInDim S253 ![] bcast_S_S253 main_c_0
  let main_v11 : IVec S253 32 := Host.shli main_v9 main_v10
  let main_v12 : FVec F S253 .f32 := bitcastToFloat .f32 main_v11
  let main_v13 : FVec F S1x253 .f32 := broadcastInDim S1x253 ![1] bcast_S253_S1x253_1 main_v12
  let main_v14 : FVec F S8192x253 .f32 := broadcastInDim S8192x253 ![0, 1] bcast_S8192x1_S8192x253_0_1 main_v6
  let main_v15 : FVec F S8192x253 .f32 := broadcastInDim S8192x253 ![0, 1] bcast_S1x253_S8192x253_0_1 main_v13
  let main_v16 : IVec S8192x253 1 := cmpf .oge main_v14 main_v15
  let main_v17 : IVec S8192x253 32 := (extui 32 · natLt_1_32) main_v16
  let main_c_1 : IVec S_ 32 := constantI S_ 32 0#32
  let main_v18 : IVec S8192 32 := (fun x v => Host.reduce IntOp.addi x v reducesTo_S8192x253_S8192_d1 h_S_) main_v17 main_c_1
  fn_part1 (F := F) main_arg1 main_arg3 main_v4 main_v5 main_v18
-- ==== Kernel.lean ====
abbrev S8192x768 : Shape := ⟨2, ![8192, 768]⟩
abbrev S6144x768 : Shape := ⟨2, ![6144, 768]⟩
abbrev S6144 : Shape := ⟨1, ![6144]⟩
abbrev S768x6144 : Shape := ⟨2, ![768, 6144]⟩
abbrev S768 : Shape := ⟨1, ![768]⟩
abbrev S1x6144 : Shape := ⟨2, ![1, 6144]⟩
abbrev S1x768 : Shape := ⟨2, ![1, 768]⟩
abbrev S8192x6144 : Shape := ⟨2, ![8192, 6144]⟩
abbrev S256x768 : Shape := ⟨2, ![256, 768]⟩
abbrev S256x6144 : Shape := ⟨2, ![256, 6144]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x768, .f32⟩
  | .hbm, ⟨1, _⟩ => ⟨S6144x768, .f32⟩
  | .hbm, ⟨2, _⟩ => ⟨S6144, .f32⟩
  | .hbm, ⟨3, _⟩ => ⟨S768x6144, .f32⟩
  | .hbm, ⟨4, _⟩ => ⟨S768, .f32⟩
  | .hbm, ⟨5, _⟩ => ⟨S1x6144, .f32⟩
  | .hbm, ⟨6, _⟩ => ⟨S6144x768, .bf16⟩
  | .hbm, ⟨7, _⟩ => ⟨S1x768, .f32⟩
  | .hbm, ⟨8, _⟩ => ⟨S8192x768, .f32⟩
  | .hbm, ⟨9, _⟩ => ⟨S8192x6144, .f32⟩
  | .local _ .vmem, ⟨0, _⟩ => ⟨S256x768, .f32⟩
  | .local _ .vmem, ⟨1, _⟩ => ⟨S256x768, .f32⟩
  | .local _ .vmem, ⟨2, _⟩ => ⟨S768x6144, .f32⟩
  | .local _ .vmem, ⟨3, _⟩ => ⟨S1x6144, .f32⟩
  | .local _ .vmem, ⟨4, _⟩ => ⟨S6144x768, .bf16⟩
  | .local _ .vmem, ⟨5, _⟩ => ⟨S1x768, .f32⟩
  | .local _ .vmem, ⟨6, _⟩ => ⟨S256x768, .f32⟩
  | .local _ .vmem, ⟨7, _⟩ => ⟨S256x768, .f32⟩
  | .local _ .vmem, ⟨8, _⟩ => ⟨S256x6144, .f32⟩
  | .local _ .vmem, ⟨9, _⟩ => ⟨S256x6144, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6144x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x768 : Shape := ⟨2, ![8192, 768]⟩
abbrev S6144x768 : Shape := ⟨2, ![6144, 768]⟩
abbrev S6144 : Shape := ⟨1, ![6144]⟩
abbrev S768x6144 : Shape := ⟨2, ![768, 6144]⟩
abbrev S768 : Shape := ⟨1, ![768]⟩
abbrev S8192x6144 : Shape := ⟨2, ![8192, 6144]⟩
abbrev S1x6144 : Shape := ⟨2, ![1, 6144]⟩
abbrev S8192x64 : Shape := ⟨2, ![8192, 64]⟩
abbrev S8192 : Shape := ⟨1, ![8192]⟩
abbrev S8192x1 : Shape := ⟨2, ![8192, 1]⟩
abbrev S_ : Shape := ⟨0, ![]⟩
abbrev S8192x64x1 : Shape := ⟨3, ![8192, 64, 1]⟩
abbrev S8192x64x2 : Shape := ⟨3, ![8192, 64, 2]⟩
abbrev S1x768 : Shape := ⟨2, ![1, 768]⟩

abbrev nBuf : Space → Nat
  | .hbm => 40
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S6144x768, .f32⟩
  | .hbm, ⟨2, _⟩ => ⟨S6144, .f32⟩
  | .hbm, ⟨3, _⟩ => ⟨S768x6144, .f32⟩
  | .hbm, ⟨4, _⟩ => ⟨S768, .f32⟩
  | .hbm, ⟨5, _⟩ => ⟨S768x6144, .f32⟩
  | .hbm, ⟨6, _⟩ => ⟨S8192x6144, .f32⟩
  | .hbm, ⟨7, _⟩ => ⟨S1x6144, .f32⟩
  | .hbm, ⟨8, _⟩ => ⟨S8192x6144, .f32⟩
  | .hbm, ⟨9, _⟩ => ⟨S8192x6144, .f32⟩
  | .hbm, ⟨10, _⟩ => ⟨S8192x64, .f32⟩
  | .hbm, ⟨11, _⟩ => ⟨S8192x64, .i32⟩
  | .hbm, ⟨12, _⟩ => ⟨S8192, .i32⟩
  | .hbm, ⟨13, _⟩ => ⟨S8192x1, .i32⟩
  | .hbm, ⟨14, _⟩ => ⟨S_, .f32⟩
  | .hbm, ⟨15, _⟩ => ⟨S8192x6144, .f32⟩
  | .hbm, ⟨16, _⟩ => ⟨S_, .i32⟩
  | .hbm, ⟨17, _⟩ => ⟨S8192x1, .i32⟩
  | .hbm, ⟨18, _⟩ => ⟨S8192x1, .i1⟩
  | .hbm, ⟨19, _⟩ => ⟨S_, .i32⟩
  | .hbm, ⟨20, _⟩ => ⟨S8192x1, .i32⟩
  | .hbm, ⟨21, _⟩ => ⟨S8192x1, .i32⟩
  | .hbm, ⟨22, _⟩ => ⟨S8192x1, .i32⟩
  | .hbm, ⟨23, _⟩ => ⟨S_, .i32⟩
  | .hbm, ⟨24, _⟩ => ⟨S8192x64, .i32⟩
  | .hbm, ⟨25, _⟩ => ⟨S8192x64, .i1⟩
  | .hbm, ⟨26, _⟩ => ⟨S_, .i32⟩
  | .hbm, ⟨27, _⟩ => ⟨S8192x64, .i32⟩
  | .hbm, ⟨28, _⟩ => ⟨S8192x64, .i32⟩
  | .hbm, ⟨29, _⟩ => ⟨S8192x64, .i32⟩
  | .hbm, ⟨30, _⟩ => ⟨S8192x64, .i32⟩
  | .hbm, ⟨31, _⟩ => ⟨S8192x64x1, .i32⟩
  | .hbm, ⟨32, _⟩ => ⟨S8192x64x1, .i32⟩
  | .hbm, ⟨33, _⟩ => ⟨S8192x64x2, .i32⟩
  | .hbm, ⟨34, _⟩ => ⟨S8192x6144, .f32⟩
  | .hbm, ⟨35, _⟩ => ⟨S6144x768, .f32⟩
  | .hbm, ⟨36, _⟩ => ⟨S8192x768, .f32⟩
  | .hbm, ⟨37, _⟩ => ⟨S1x768, .f32⟩
  | .hbm, ⟨38, _⟩ => ⟨S8192x768, .f32⟩
  | .hbm, ⟨39, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_values : Ref sig .tc := ⟨.hbm, 10, rfl⟩
abbrev main_indices : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.PI.Loops.lean ====
/-
  The kernel's two loops. Each `scf.while` of the kernel is a label that calls itself and touches no memory, so what a
  call of it returns is a function of the call's arguments: the loop's step repeated while its test holds. Here are
  the two tests, the two steps, the repetitions (`repeat1`, `repeat2`), and that a call of each label, entered with as
  many steps of budget as its counter can still take, returns exactly that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Tactic

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- A column of one float per row of the block, -/
abbrev Col (F : FTy → Type) : Type := FVec F S256x1 .f32

/-- what the first loop carries: the counter, the bracket's two ends with their counts (low end, its count, high end,
    its count), the threshold found, its count, and the side last moved, -/
abbrev St1 (F : FTy → Type) : Type := BitVec 32 × Col F × Col F × Col F × Col F × Col F × Col F × Col F

/-- and what the second loop carries: the counter, the threshold's sort key and its count. -/
abbrev St2 (F : FTy → Type) : Type := BitVec 32 × IVec S256x1 32 × Col F

/-- The number 64, as the kernel writes it. -/
abbrev k64 : F .f32 := Scalar.ofBits .f32 0x42800000#32

/-- A returned value's specification is its continuation at the value. -/
theorem pure_apply {α : Type} (a : α) (K : α → sProp 𝕄) : (pure a : sWPT 𝕄 α) K = K a := rfl

/-! ### The first loop -/

/-- The first loop's test: fewer than 26 steps taken, and some row's count still off by more than one. -/
def test1 (s : St1 F) : BitVec 1 :=
  Scalar.andi (Scalar.cmpi .slt s.1 26#32)
    (Scalar.cmpf .ogt (k0_pay1 k64 s.2.2.2.2.2.2.1) (Scalar.ofBits .f32 0x00000000#32))

/-- One step of the first loop, over the block's encoder outputs `z`. -/
def step1 (z : FVec F S256x6144 .f32) : St1 F → St1 F
  | (n, lo, clo, hi, chi, rf, cur, side) =>
    (Scalar.addi n 1#32,
      k0_pay3 lo (k0_pay34 k64 lo clo hi chi) (k0_pay38 k64 z lo clo hi chi cur),
      k0_pay4 k64 clo side (k0_pay35 k64 z lo clo hi chi) (k0_pay38 k64 z lo clo hi chi cur) (k0_pay39 k64 z lo clo hi chi cur)
        (k0_pay41 (F := F)),
      k0_pay5 hi (k0_pay34 k64 lo clo hi chi) (k0_pay39 k64 z lo clo hi chi cur),
      k0_pay6 (k0_pay35 k64 z lo clo hi chi) (k0_pay39 k64 z lo clo hi chi cur) (k0_pay40 k64 z lo clo hi chi cur side),
      k0_pay37 k64 z lo clo hi chi rf cur,
      k0_pay7 cur (k0_pay35 k64 z lo clo hi chi) (k0_pay36 k64 cur),
      k0_pay2 side (k0_pay38 k64 z lo clo hi chi cur) (k0_pay39 k64 z lo clo hi chi cur))

/-- The step repeated while the test holds, at most `k` times. -/
def repeat1 (z : FVec F S256x6144 .f32) : ℕ → St1 F → St1 F
  | 0, s => s
  | k + 1, s => if test1 s = 1#1 then repeat1 z k (step1 z s) else s

/-- While fewer than 26 steps are taken, the counter's successor is the next number's word, -/
theorem succ26 : ∀ j < 26, Scalar.addi (BitVec.ofNat 32 j) 1#32 = BitVec.ofNat 32 (j + 1) := by decide

/-- and at 26 the counter's half of the test fails. -/
theorem stop26 (b : BitVec 1) : ¬Scalar.andi (Scalar.cmpi .slt (BitVec.ofNat 32 26) 26#32) b = 1#1 := by
  revert b; decide

/-- A call of the first loop's label with its counter at `j`, entered with `26 - j` steps of budget, returns the step
    repeated while the test holds. -/
theorem call1 (c : Dev nD) (E : Set ℕ) (i : grid0.Coords) (z : FVec F S256x6144 .f32) :
    ∀ k j, j + k = 26 → ∀ (lo clo hi chi rf cur side : Col F) (K : St1 F → sProp 𝕄),
      (pure (repeat1 z k (BitVec.ofNat 32 j, lo, clo, hi, chi, rf, cur, side)) : sWPT 𝕄 (St1 F)) K
      ⊢ wp frame (wpE (defs₀ (F := F)) Variants.nat (c : Thread nD τ) (some k)) E
          (defs₀ (F := F) .tc 1 ⟨i, k64, k64, z, BitVec.ofNat 32 j, lo, clo, hi, chi, rf, cur, side⟩) K := by
  intro k
  induction k with
  | zero =>
    intro j hj lo clo hi chi rf cur side K
    obtain rfl : j = 26 := by omega
    show K (repeat1 z 0 (BitVec.ofNat 32 26, lo, clo, hi, chi, rf, cur, side)) ⊢ wp frame (wpE (defs₀ (F := F)) Variants.nat (c : Thread nD τ) (some 0)) E
      (cc0_while1 i k64 k64 z (BitVec.ofNat 32 26) lo clo hi chi rf cur side) K
    simp only [cc0_while1_eq_skeleton]; unfold cc0_while1_skel
    simp only [stop26, ↓reduceIte, Prog.pure_eq_ret, repeat1]
    iintro H
    rw [wp_ret]; imodintro; iexact H
  | succ k ih =>
    intro j hj lo clo hi chi rf cur side K
    show K (repeat1 z (k + 1) (BitVec.ofNat 32 j, lo, clo, hi, chi, rf, cur, side)) ⊢ wp frame (wpE (defs₀ (F := F)) Variants.nat (c : Thread nD τ) (some (k + 1))) E
      (cc0_while1 i k64 k64 z (BitVec.ofNat 32 j) lo clo hi chi rf cur side) K
    simp only [cc0_while1_eq_skeleton]; unfold cc0_while1_skel
    rw [repeat1]
    by_cases ht : test1 ((BitVec.ofNat 32 j, lo, clo, hi, chi, rf, cur, side) : St1 F) = 1#1
    · rw [if_pos ht]
      have ht' := ht; unfold test1 at ht'
      simp only [ht', ↓reduceIte, k0_part4_eq_skeleton, k0_part4_skel, Prog.lift, Prog.bind_op, Prog.bind_ret, Prog.pure_eq_ret]
      rw [succ26 j (by omega)]
      iintro H
      iapply (wp_call_spec Variants.nat (c : Thread nD τ) (some (k + 1)) E
        (pure (repeat1 z k (step1 z (BitVec.ofNat 32 j, lo, clo, hi, chi, rf, cur, side))) : sWPT 𝕄 (St1 F)) k
        (fun u hu => by cases hu; exact Nat.lt_succ_self k) (fun K' => by
          simp only [step1, succ26 j (by omega : j < 26)]
          exact ih (j + 1) (by omega) _ _ _ _ _ _ _ K'))
      rw [pure_apply, wp_ret]; imodintro; iexact H
    · rw [if_neg ht]
      have ht' := ht; unfold test1 at ht'
      simp only [ht', ↓reduceIte, Prog.pure_eq_ret]
      iintro H
      rw [wp_ret]; imodintro; iexact H

/-! ### The second loop -/

/-- The second loop's test: fewer than 32 steps taken, and some row's count is not yet 64. -/
def test2 (s : St2 F) : BitVec 1 :=
  Scalar.andi (Scalar.cmpi .slt s.1 32#32)
    (Scalar.cmpf .ogt (k0_pay8 k64 s.2.2) (Scalar.ofBits .f32 0x00000000#32))

/-- One step of the second loop. -/
def step2 (z : FVec F S256x6144 .f32) : St2 F → St2 F
  | (n, key, cur) => (Scalar.addi n 1#32, k0_pay12 z k64 n key cur, k0_pay13 z k64 n key cur)

/-- The step repeated while the test holds, at most `k` times. -/
def repeat2 (z : FVec F S256x6144 .f32) : ℕ → St2 F → St2 F
  | 0, s => s
  | k + 1, s => if test2 s = 1#1 then repeat2 z k (step2 z s) else s

/-- While fewer than 32 steps are taken, the counter's successor is the next number's word, -/
theorem succ32 : ∀ j < 32, Scalar.addi (BitVec.ofNat 32 j) 1#32 = BitVec.ofNat 32 (j + 1) := by decide

/-- and at 32 the counter's half of the test fails. -/
theorem stop32 (b : BitVec 1) : ¬Scalar.andi (Scalar.cmpi .slt (BitVec.ofNat 32 32) 32#32) b = 1#1 := by
  revert b; decide

/-- A call of the second loop's label with its counter at `j`, entered with `32 - j` steps of budget, returns the step
    repeated while the test holds. -/
theorem call2 (c : Dev nD) (E : Set ℕ) (i : grid0.Coords) (z : FVec F S256x6144 .f32) :
    ∀ k j, j + k = 32 → ∀ (key : IVec S256x1 32) (cur : Col F) (K : St2 F → sProp 𝕄),
      (pure (repeat2 z k (BitVec.ofNat 32 j, key, cur)) : sWPT 𝕄 (St2 F)) K
      ⊢ wp frame (wpE (defs₀ (F := F)) Variants.nat (c : Thread nD τ) (some k)) E
          (defs₀ (F := F) .tc 2 ⟨i, k64, z, k64, BitVec.ofNat 32 j, key, cur⟩) K := by
  intro k
  induction k with
  | zero =>
    intro j hj key cur K
    obtain rfl : j = 32 := by omega
    show K (repeat2 z 0 (BitVec.ofNat 32 32, key, cur)) ⊢ wp frame (wpE (defs₀ (F := F)) Variants.nat (c : Thread nD τ) (some 0)) E
      (cc0_while2 i k64 z k64 (BitVec.ofNat 32 32) key cur) K
    simp only [cc0_while2_eq_skeleton]; unfold cc0_while2_skel
    simp only [stop32, ↓reduceIte, Prog.pure_eq_ret, repeat2]
    iintro H
    rw [wp_ret]; imodintro; iexact H
  | succ k ih =>
    intro j hj key cur K
    show K (repeat2 z (k + 1) (BitVec.ofNat 32 j, key, cur)) ⊢ wp frame (wpE (defs₀ (F := F)) Variants.nat (c : Thread nD τ) (some (k + 1))) E
      (cc0_while2 i k64 z k64 (BitVec.ofNat 32 j) key cur) K
    simp only [cc0_while2_eq_skeleton]; unfold cc0_while2_skel
    rw [repeat2]
    by_cases ht : test2 ((BitVec.ofNat 32 j, key, cur) : St2 F) = 1#1
    · rw [if_pos ht]
      have ht' := ht; unfold test2 at ht'
      simp only [ht', ↓reduceIte, Prog.lift, Prog.bind_op, Prog.bind_ret, Prog.pure_eq_ret]
      rw [succ32 j (by omega)]
      iintro H
      iapply (wp_call_spec Variants.nat (c : Thread nD τ) (some (k + 1)) E
        (pure (repeat2 z k (step2 z (BitVec.ofNat 32 j, key, cur))) : sWPT 𝕄 (St2 F)) k
        (fun u hu => by cases hu; exact Nat.lt_succ_self k) (fun K' => by
          simp only [step2, succ32 j (by omega : j < 32)]
          exact ih (j + 1) (by omega) _ _ K'))
      rw [pure_apply, wp_ret]; imodintro; iexact H
    · rw [if_neg ht]
      have ht' := ht; unfold test2 at ht'
      simp only [ht', ↓reduceIte, Prog.pure_eq_ret]
      iintro H
      rw [wp_ret]; imodintro; iexact H

end Cert.Proof.PI

end
-- ==== Proof.PI.Run.lean ====
/-
  The kernel's run: what the body leaves in its two output buffers as functions of its five input blocks, the body's
  triple, the pipeline's proof data over it, and the run of @main that follows, with every argument array unchanged,
  every semaphore at zero, and the two result arrays named.
-/
module

public import proofs.«01_k».proof.Proof.PI.Loops
public import Idealize.ShloMosaic.Lib.Ring
public import Idealize.ShloMosaic.Lib.WordCmp
public import Idealize.ShloMosaic.Lib.Pipeline.Value

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### What the body computes -/

/-- The first loop's start, -/
def start1 (x : Vec F S256x768 .f32) (w : Vec F S768x6144 .f32) (b : Vec F S1x6144 .f32) : St1 F :=
  (0#32, k0_pay22 (k0_pay16 x w b) (k0_pay18 x w b) (k0_pay20 x w b), k0_pay23 (k0_pay20 x w b),
    k0_pay24 (k0_pay18 x w b) (k0_pay19 x w b) (k0_pay20 x w b), k0_pay25 (k0_pay20 x w b), k0_pay21 x w b, k0_pay20 x w b,
    k0_pay26 (F := F))

/-- and its outcome; -/
def end1 (x : Vec F S256x768 .f32) (w : Vec F S768x6144 .f32) (b : Vec F S1x6144 .f32) : St1 F :=
  repeat1 (k0_pay14 x w b) 26 (start1 x w b)

/-- the second loop's outcome, from the count `cur` the first one ends with. -/
def end2 (z : FVec F S256x6144 .f32) (cur : Col F) : St2 F :=
  repeat2 z 32 (0#32, k0_pay28 (F := F), k0_pay29 cur)

/-- The block of sparse codes the body stores, -/
def sparse (x : Vec F S256x768 .f32) (w : Vec F S768x6144 .f32) (b : Vec F S1x6144 .f32) : Vec F S256x6144 .f32 :=
  k0_pay32 (k0_pay14 x w b) (end1 x w b).2.2.2.2.2.2.1 (k0_pay27 (end1 x w b).2.2.2.2.2.2.1)
    (k0_pay30 (k0_pay14 x w b) (end1 x w b).2.2.2.2.2.1 (end1 x w b).2.2.2.2.2.2.1
      (end2 (k0_pay14 x w b) (end1 x w b).2.2.2.2.2.2.1).2.1)
    (k0_pay31 (k0_pay14 x w b) (end1 x w b).2.2.2.2.2.1 (end1 x w b).2.2.2.2.2.2.1
      (end2 (k0_pay14 x w b) (end1 x w b).2.2.2.2.2.2.1).2.1)

/-- and the block of reconstructions. -/
def decoded (x : Vec F S256x768 .f32) (w : Vec F S768x6144 .f32) (b : Vec F S1x6144 .f32) (u : Vec F S6144x768 .bf16)
    (d : Vec F S1x768 .f32) : Vec F S256x768 .f32 :=
  k0_pay33 (k0_pay14 x w b) (end1 x w b).2.2.2.2.2.2.1 (k0_pay27 (end1 x w b).2.2.2.2.2.2.1)
    (k0_pay30 (k0_pay14 x w b) (end1 x w b).2.2.2.2.2.1 (end1 x w b).2.2.2.2.2.2.1
      (end2 (k0_pay14 x w b) (end1 x w b).2.2.2.2.2.2.1).2.1)
    (k0_pay31 (k0_pay14 x w b) (end1 x w b).2.2.2.2.2.1 (end1 x w b).2.2.2.2.2.2.1
      (end2 (k0_pay14 x w b) (end1 x w b).2.2.2.2.2.2.1).2.1) u d

/-! ### The accesses, each of a whole buffer -/

abbrev rX : Rect S256x768 := Rect.unit (s := S256x768) ![0, 0] S256x768.size inb_S256x768_S256x768_0_0
abbrev rW : Rect S768x6144 := Rect.unit (s := S768x6144) ![0, 0] S768x6144.size inb_S768x6144_S768x6144_0_0
abbrev rB : Rect S1x6144 := Rect.unit (s := S1x6144) ![0, 0] S1x6144.size inb_S1x6144_S1x6144_0_0
abbrev rZ : Rect S256x6144 := Rect.unit (s := S256x6144) ![0, 0] S256x6144.size inb_S256x6144_S256x6144_0_0
abbrev rU : Rect S6144x768 := Rect.unit (s := S6144x768) ![0, 0] S6144x768.size inb_S6144x768_S6144x768_0_0
abbrev rD : Rect S1x768 := Rect.unit (s := S1x768) ![0, 0] S1x768.size inb_S1x768_S1x768_0_0

/-- The reconstruction buffer after the body: its one store. -/
def outY (x0 : Vec F S256x768 .f32) (x1 : Vec F S768x6144 .f32) (x2 : Vec F S1x6144 .f32) (x3 : Vec F S6144x768 .bf16)
    (x4 : Vec F S1x768 .f32) : Vec F S256x768 .f32 :=
  View.canon [⟨rX, decoded (View.ld x0 rX) (View.ld x1 rW) (View.ld x2 rB) (View.ld x3 rU) (View.ld x4 rD)⟩]

/-- The sparse-code buffer after the body: its one store. -/
def outZ (x0 : Vec F S256x768 .f32) (x1 : Vec F S768x6144 .f32) (x2 : Vec F S1x6144 .f32) : Vec F S256x6144 .f32 :=
  View.canon [⟨rZ, sparse (View.ld x0 rX) (View.ld x1 rW) (View.ld x2 rB)⟩]

/-- Each store fills its whole buffer. -/
theorem fillsY (p : Vec F S256x768 .f32) (y : S256x768.Idx) :
    ∃ pc ∈ ([⟨rX, p⟩] : List (View.Piece (Elt F) S256x768 .f32)), y ∈ pc.1.set :=
  View.cover_of_tiled [⟨rX, p⟩] S256x768.size (by rfl) y
theorem fillsZ (p : Vec F S256x6144 .f32) (y : S256x6144.Idx) :
    ∃ pc ∈ ([⟨rZ, p⟩] : List (View.Piece (Elt F) S256x6144 .f32)), y ∈ pc.1.set :=
  View.cover_of_tiled [⟨rZ, p⟩] S256x6144.size (by rfl) y

/-! ### The body's triple -/

set_option maxHeartbeats 1000000 in
/-- The body, holding its seven buffers, runs to its end with the inputs as they were and the outputs at `outY`, `outZ`
    of them: the loads, the two loops' labels (`call1`, `call2`), then the two stores. -/
theorem body_triple (c : Dev nD) (E : Set ℕ) (i : grid0.Coords)
    (arg1 : Memref sig .tc .vmem S256x768 .f32) (harg1 : arg1.IsWhole) (arg2 : Memref sig .tc .vmem S768x6144 .f32) (harg2 : arg2.IsWhole)
    (arg3 : Memref sig .tc .vmem S1x6144 .f32) (harg3 : arg3.IsWhole) (arg4 : Memref sig .tc .vmem S6144x768 .bf16) (harg4 : arg4.IsWhole)
    (arg5 : Memref sig .tc .vmem S1x768 .f32) (harg5 : arg5.IsWhole) (arg6 : Memref sig .tc .vmem S256x768 .f32) (harg6 : arg6.IsWhole)
    (arg7 : Memref sig .tc .vmem S256x6144 .f32) (harg7 : arg7.IsWhole)
    (x0 : Vec F S256x768 .f32) (x1 : Vec F S768x6144 .f32) (x2 : Vec F S1x6144 .f32) (x3 : Vec F S6144x768 .bf16) (x4 : Vec F S1x768 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outY x0 x1 x2 x3 x4) ∗ owns (c : Thread nD τ) arg7 fullShare (outZ x0 x1 x2)) -∗ K ⟨⟩))
      ⊢ wp frame (wpE (defs₀ (F := F)) Variants.nat c none) E
          (cc0__sae_body i arg1 harg1 arg2 harg2 arg3 harg3 arg4 harg4 arg5 harg5 arg6 harg6 arg7 harg7) K := by
  simp only [cc0__sae_body_eq_skeleton]; unfold cc0__sae_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  iapply (wp_call_spec Variants.nat (c : Thread nD τ) none E
    (pure (end1 (View.ld (arg1.view.read (Elt F) f0) rX) (View.ld (arg2.view.read (Elt F) f1) rW) (View.ld (arg3.view.read (Elt F) f2) rB)) : sWPT 𝕄 (St1 F))
    26 (fun u hu => nomatch hu) (fun K' => call1 c E i _ 26 0 rfl _ _ _ _ _ _ _ K'))
  rw [pure_apply]
  generalize h1 : end1 (View.ld (arg1.view.read (Elt F) f0) rX) (View.ld (arg2.view.read (Elt F) f1) rW)
    (View.ld (arg3.view.read (Elt F) f2) rB) = s1
  obtain ⟨n, lo, clo, hi, chi, rf, cur, side⟩ := s1
  sl_exec
  iapply (wp_call_spec Variants.nat (c : Thread nD τ) none E
    (pure (end2 (k0_pay14 (View.ld (arg1.view.read (Elt F) f0) rX) (View.ld (arg2.view.read (Elt F) f1) rW) (View.ld (arg3.view.read (Elt F) f2) rB)) cur) : sWPT 𝕄 (St2 F))
    32 (fun u hu => nomatch hu) (fun K' => call2 c E i _ 32 0 rfl _ _ K'))
  rw [pure_apply]
  generalize h2 : end2 (k0_pay14 (View.ld (arg1.view.read (Elt F) f0) rX) (View.ld (arg2.view.read (Elt F) f1) rW)
    (View.ld (arg3.view.read (Elt F) f2) rB)) cur = s2
  obtain ⟨n', key, cnt⟩ := s2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold outY decoded
    rw [h1, h2]
    exact View.read_writes_eq_canon _ _ _ (fillsY _)
  iexists _; isplitr
  swap; · iexact H6
  ipureintro
  unfold outZ sparse
  rw [h1, h2]
  exact View.read_writes_eq_canon _ _ _ (fillsZ _)

/-! ### @main up to the launch -/

/-- The arrays as the launch finds them: the host operations before it, run from the memory `m`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main runs to the launch with the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Argument 0 reaches the launch as it was. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 1 reaches the launch as it was. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 2 reaches the launch as it was. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 3 reaches the launch as it was. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 4 reaches the launch as it was. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at grid point `t`, read off its array as the launch finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ### The pipeline's proof data -/

/-- The arrays as the launch finds them; after the body at point `t` an input's buffer holds its block, an output's the
    body's result on the input blocks; nothing is owed and every share is whole. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outY (iblk m c 0 t) (iblk m c 1 t) (iblk m c 2 t) (iblk m c 3 t) (iblk m c 4 t)
    | ⟨6, _⟩ => outZ (iblk m c 0 t) (iblk m c 1 t) (iblk m c 2 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) :
    (dats m 0 c).after 5 t = outY (iblk m c 0 t) (iblk m c 1 t) (iblk m c 2 t) (iblk m c 3 t) (iblk m c 4 t) := by dsimp only [dats]; rfl
theorem after0_6 (c : Dev nD) (t : Fin (cfg0 (F := F)).N) :
    (dats m 0 c).after 6 t = outZ (iblk m c 0 t) (iblk m c 1 t) (iblk m c 2 t) := by dsimp only [dats]; rfl

/-! An input's buffer holds its block when the body is entered, whether or not this point fetched it: the body leaves it
    in place and an unfetched block has not moved. -/

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ### The body at a grid point -/

/-- What the body is entered with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it leaves. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem body_at (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The pipeline's obligation on the body, at every point. -/
theorem body_obligation (c : Dev nD) : BodyObligation (dats (F := F) m 0 c) (defs₀ (F := F)) Variants.nat () Set.univ := fun t => by
  rw [bigSep_W0, bigSep_W0, body_row]
  exact triple_restated (body_at m c t) rfl .rfl fun _ => .rfl

/-! ### The run -/

set_option backward.isDefEq.respectTransparency.types false in
set_option maxHeartbeats 800000 in
/-- @main terminates with each of the pipeline's arrays at what the proof data computes, every other array as the launch
    found it, and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- After it the two result arrays are the proof data's, and every argument is unchanged. -/
theorem run_named : θ_run defs (onTc (τ := τ) (main (F := F))) ⟨m, fun _ => 0, ρ⟩ (fun r => (∀ c : Dev nD,
      r.2.mem ((c.tc : Thread nD τ).loc main_v3_0) = (dats m 0 c).arrAt 5 (cfg0 (F := F)).N
      ∧ r.2.mem ((c.tc : Thread nD τ).loc main_v3_1) = (dats m 0 c).arrAt 6 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 5, (h.1 c).1 6,
      ((h.1 c).1 0).trans (((dats m 0 c).arrAt_in 0 rfl _).trans ((A_eq m c 0).trans (V_arg0 m c))),
      ((h.1 c).2 main_arg1 (Pipeline.mem_restRefs_of main_arg1 (by decide) (by decide : ∀ w : Fin 7, (spec0 w).arr.view.ref ≠ main_arg1))).trans (V_arg1 m c),
      ((h.1 c).2 main_arg2 (Pipeline.mem_restRefs_of main_arg2 (by decide) (by decide : ∀ w : Fin 7, (spec0 w).arr.view.ref ≠ main_arg2))).trans (V_arg2 m c),
      ((h.1 c).1 1).trans (((dats m 0 c).arrAt_in 1 rfl _).trans ((A_eq m c 1).trans (V_arg3 m c))),
      ((h.1 c).2 main_arg4 (Pipeline.mem_restRefs_of main_arg4 (by decide) (by decide : ∀ w : Fin 7, (spec0 w).arr.view.ref ≠ main_arg4))).trans (V_arg4 m c)⟩, h.2⟩)
    (run_quiescent m ρ)

/-- The frame: @main terminates, its arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2, h.2⟩) (run_named m ρ)

end Cert.Proof.PI

end
-- ==== Proof.Value.Rank.lean ====
/-
  Facts about one row of extended reals, free of any program: how many of its entries lie at or above a threshold, and
  what the entries at or above a threshold are when that number is 64, 65 or 63.
-/
module

public import Idealize.ShloMosaic.PureOps.Ideal.Laws

@[expose] public section

namespace Cert.Proof.Value

variable {n : ℕ} (f : Fin n → EReal)

/-- The positions whose entry is at least `t`, -/
noncomputable def top (t : EReal) : Finset (Fin n) := by
  classical exact Finset.univ.filter fun c => t ≤ f c

/-- and how many they are. -/
noncomputable def cnt (t : EReal) : ℕ := (top f t).card

theorem mem_top {t : EReal} {c : Fin n} : c ∈ top f t ↔ t ≤ f c := by
  classical
  unfold top
  simp

/-- A higher threshold keeps fewer positions. -/
theorem top_anti {s t : EReal} (h : s ≤ t) : top f t ⊆ top f s := fun c hc =>
  (mem_top f).2 (h.trans ((mem_top f).1 hc))

theorem cnt_anti {s t : EReal} (h : s ≤ t) : cnt f t ≤ cnt f s := Finset.card_le_card (top_anti f h)

/-- Of two thresholds the one that keeps more positions keeps all the other's. -/
theorem top_subset {s t : EReal} (h : cnt f t ≤ cnt f s) : top f t ⊆ top f s := by
  rcases le_total s t with e | e
  · exact top_anti f e
  · exact (Finset.eq_of_subset_of_card_le (top_anti f e) h).symm.subset

/-- Two thresholds that keep as many positions keep the same ones. -/
theorem top_eq {s t : EReal} (h : cnt f s = cnt f t) : top f s = top f t :=
  Finset.Subset.antisymm (top_subset f h.le) (top_subset f h.ge)

/-- The kept entries of equally many positions, entry by entry. -/
theorem keep_same {s t : EReal} (h : cnt f s = cnt f t) (c : Fin n) : s ≤ f c ↔ t ≤ f c := by
  rw [← mem_top f, ← mem_top f, top_eq f h]

/-- A threshold that keeps one position more than another keeps the other's and one that lies below it. -/
theorem one_more {s t : EReal} (h : cnt f s = cnt f t + 1) :
    ∃ e, s ≤ f e ∧ f e < t ∧ ∀ c, s ≤ f c ↔ t ≤ f c ∨ c = e := by
  classical
  have hs : top f t ⊆ top f s := top_subset f (by omega)
  have h1 : (top f s \ top f t).card = 1 := by
    rw [Finset.card_sdiff_of_subset hs]; unfold cnt at h; omega
  obtain ⟨e, he⟩ := Finset.card_eq_one.1 h1
  have hm : ∀ c, c ∈ top f s ∧ c ∉ top f t ↔ c = e := fun c => by
    rw [← Finset.mem_sdiff, he, Finset.mem_singleton]
  have hee := (hm e).2 rfl
  rw [mem_top, mem_top, not_le] at hee
  refine ⟨e, hee.1, hee.2, fun c => ⟨fun hc => ?_, ?_⟩⟩
  · by_cases ht : t ≤ f c
    · exact .inl ht
    · exact .inr ((hm c).1 ⟨(mem_top f).2 hc, fun q => ht ((mem_top f).1 q)⟩)
  · rintro (hc | rfl)
    · exact (mem_top f).1 (hs ((mem_top f).2 hc))
    · exact hee.1

open Classical in
/-- One position too many: dropping the kept entries equal to the least kept one leaves the right ones. -/
theorem drop_least {s t : EReal} (h : cnt f s = cnt f t + 1) (c : Fin n) :
    (s ≤ f c ∧ ¬ f c = Finset.univ.fold min ⊤ fun k => if s ≤ f k then f k else ⊤) ↔ t ≤ f c := by
  obtain ⟨e, hse, het, hall⟩ := one_more f h
  have hm : (Finset.univ.fold min ⊤ fun k => if s ≤ f k then f k else ⊤) = f e := by
    apply le_antisymm
    · exact Finset.fold_min_le _ |>.2 (.inr ⟨e, Finset.mem_univ _, by rw [if_pos hse]⟩)
    · refine Finset.le_fold_min _ |>.2 ⟨le_top, fun k _ => ?_⟩
      split
      · rename_i hk
        rcases (hall k).1 hk with q | rfl
        · exact het.le.trans q
        · exact le_rfl
      · exact le_top
  rw [hm, hall]
  constructor
  · rintro ⟨q | rfl, hne⟩
    · exact q
    · exact absurd rfl hne
  · exact fun q => ⟨.inl q, fun q' => absurd (q'.symm ▸ het) (not_lt.2 q)⟩

open Classical in
/-- One position too few: adding the entries equal to the greatest one left out gives the right ones. -/
theorem add_greatest {s t : EReal} (h : cnt f t = cnt f s + 1) (c : Fin n) :
    (s ≤ f c ∨ f c = Finset.univ.fold max ⊥ fun k => if s ≤ f k then ⊥ else f k) ↔ t ≤ f c := by
  obtain ⟨e, hte, hes, hall⟩ := one_more f h
  have hm : (Finset.univ.fold max ⊥ fun k => if s ≤ f k then ⊥ else f k) = f e := by
    apply le_antisymm
    · refine Finset.fold_max_le _ |>.2 ⟨bot_le, fun k _ => ?_⟩
      split
      · exact bot_le
      · rename_i hk
        by_cases q : t ≤ f k
        · rcases (hall k).1 q with q | rfl
          · exact absurd q hk
          · exact le_rfl
        · exact (not_le.1 q).le.trans hte
    · exact Finset.le_fold_max _ |>.2 (.inr ⟨e, Finset.mem_univ _, by rw [if_neg (not_le.2 hes)]⟩)
  rw [hm]
  constructor
  · rintro (q | q)
    · exact (hall c).2 (.inl q)
    · rw [q]; exact hte
  · intro q
    rcases (hall c).1 q with q | rfl
    · exact .inl q
    · exact .inr rfl

end Cert.Proof.Value
-- ==== Proof.Value.Keys.lean ====
/-
  The order of single-precision words by their sort keys: key number `k` names the word whose sort key, moved up by
  2^31, is `k`; up to the number of +∞ the words' values increase with the number.  Then the bisection over the key
  numbers, free of any program.
-/
module

public import Idealize.ShloMosaic.Lib.SortKey
public import Idealize.ShloMosaic.Lib.TotalOrder
public import proofs.«01_k».proof.Proof.Value.Rank

@[expose] public section

noncomputable section

namespace Cert.Proof.Value

open Idealize.ShloMosaic Idealize.ShloMosaic.TotalOrder

/-- The signed key with number `k`, -/
def key (k : ℕ) : BitVec 32 := BitVec.ofNat 32 (k + 2 ^ 31)

/-- the word it is the sort key of, -/
def word (k : ℕ) : BitVec 32 := sortableKey (key k)

/-- and the value of that word. -/
def val (k : ℕ) : EReal := Ideal.ofBits .f32 (word k)

/-- The key number of +∞. -/
def kInf : ℕ := 0xFF800000

theorem kInf_eq : kInf = 4286578688 := rfl

/-- The key number of a word. -/
def num (w : BitVec 32) : ℕ := (totalOrderKey w).toNat

theorem toInt_key {k : ℕ} (h : k < 2 ^ 32) : (key k).toInt = (k : ℤ) - 2 ^ 31 := by
  unfold key
  rw [BitVec.toInt_eq_toNat_cond, BitVec.toNat_ofNat]
  split <;> omega

theorem num_word {k : ℕ} (h : k < 2 ^ 32) : num (word k) = k := by
  have e := totalOrderKey_toNat_eq_sortableKey_toInt (word k)
  rw [show sortableKey (word k) = key k from sortableKey_sortableKey _, toInt_key h] at e
  unfold num
  omega

theorem word_num (w : BitVec 32) : word (num w) = w := by
  apply BitVec.eq_of_toNat_eq
  have hw := (totalOrderKey w).isLt
  have e : totalOrderKey (word (num w)) = totalOrderKey w := BitVec.eq_of_toNat_eq (num_word hw)
  rw [(totalOrderKey_eq_iff (e := 8) (m := 23) (word (num w)) w).1 e]

/-- The number, by the word's sign. -/
theorem num_eq (w : BitVec 32) : num w = if w.msb then 2 ^ 32 - 1 - w.toNat else w.toNat + 2 ^ 31 :=
  toNat_totalOrderKey (e := 8) (m := 23) w

/-- A word that is no NaN has its number between those of the two infinities, and conversely. -/
theorem not_nan_iff (w : BitVec 32) : ¬ IsNaN 8 23 w ↔ 0x7FFFFF ≤ num w ∧ num w ≤ kInf := by
  have hl := w.isLt
  have hI := kInf_eq
  rw [num_eq]
  unfold IsNaN
  rw [expo_eq, frac_eq]
  cases h : w.msb
  · have := BitVec.msb_eq_false_iff_two_mul_lt.mp h
    simp only [Bool.false_eq_true, if_false]
    omega
  · have := BitVec.msb_eq_true_iff_two_mul_ge.mp h
    simp only [if_true]
    omega

/-- A NaN word's value is the least one. -/
theorem val_of_nan {w : BitVec 32} (h : IsNaN 8 23 w) : Ideal.ofBits .f32 w = ⊥ := by
  show Ideal.ieee 8 23 w = ⊥
  unfold Ideal.ieee
  obtain ⟨h1, h2⟩ := h
  have h1' : (w.extractLsb' 23 8).toNat = 2 ^ 8 - 1 := h1
  have h2' : ¬ (w.extractLsb' 0 23).toNat = 0 := h2
  simp only [h1', h2', if_true, if_false]

/-- Up to +∞ the values increase with the key number. -/
theorem val_mono {j k : ℕ} (h : j ≤ k) (hk : k ≤ kInf) : val j ≤ val k := by
  have hI := kInf_eq
  unfold val
  have nj := num_word (k := j) (by omega)
  have nk := num_word (k := k) (by omega)
  by_cases hj : IsNaN 8 23 (word j)
  · rw [val_of_nan hj]; exact bot_le
  · have hj' := (not_nan_iff _).1 hj
    have hk' : ¬ IsNaN 8 23 (word k) := (not_nan_iff _).2 (by omega)
    by_contra hlt
    rw [not_le] at hlt
    by_cases hz : OppositeZeros 8 23 (word k) (word j)
    · have e : Ideal.ieee 8 23 (word k) = Ideal.ieee 8 23 (word j) := by
        have a := hz.1; have b := hz.2.1
        rw [ieee_eq_signed_absVal hk', ieee_eq_signed_absVal hj]
        have za : absVal 8 23 (word k) = 0 :=
          ((absVal_eq_absVal_iff hk' (b := 0#32) (by decide)).2 ((isZero_iff_mag_eq_zero 8 23 _).1 a)).trans (by
            simp [absVal, expo, frac, sig])
        have zb : absVal 8 23 (word j) = 0 :=
          ((absVal_eq_absVal_iff hj (b := 0#32) (by decide)).2 ((isZero_iff_mag_eq_zero 8 23 _).1 b)).trans (by
            simp [absVal, expo, frac, sig])
        rw [za, zb]; simp
      exact absurd hlt (by show ¬ Ideal.ieee 8 23 (word k) < Ideal.ieee 8 23 (word j); rw [e]; exact lt_irrefl _)
    · have := (lt_iff (e := 8) (m := 23) hk' hj hz).2 hlt
      change num (word k) < num (word j) at this
      omega

/-- A word with a finite exponent has its number below +∞'s. -/
theorem num_lt_of_finite {w : BitVec 32} (h : (w &&& 0x7FFFFFFF#32).toInt < (0x7F800000#32).toInt) : num w < kInf := by
  have hl := w.isLt
  have hI := kInf_eq
  have e : (w &&& 0x7FFFFFFF#32).toNat = w.toNat % 2 ^ 31 := by
    rw [BitVec.toNat_and]; exact Nat.and_two_pow_sub_one_eq_mod _ 31
  have e2 : (0x7F800000#32).toInt = 0x7F800000 := by decide
  rw [e2, BitVec.toInt_eq_toNat_cond, e] at h
  rw [num_eq]
  cases hm : w.msb
  · have := BitVec.msb_eq_false_iff_two_mul_lt.mp hm
    simp only [Bool.false_eq_true, if_false]
    split at h <;> omega
  · have := BitVec.msb_eq_true_iff_two_mul_ge.mp hm
    simp only [if_true]
    omega

/-! ### The bisection -/

variable {n : ℕ} (f : Fin n → EReal)

/-- After `i` halvings, with key number `k` and recorded count `cur`: the count is 64, recorded and had by `k`; or it is
    not recorded yet and the number `K` looked for lies in the `2^(32-i)` numbers from `k` on. -/
def Halved (K i k : ℕ) (cur : EReal) : Prop :=
  (cur = 64 ∧ cnt f (val k) = 64) ∨ (cur ≠ 64 ∧ k ≤ K ∧ K < k + 2 ^ (32 - i) ∧ 2 ^ (32 - i) ∣ k)

/-- Where the next trial lies. -/
theorem trial_bounds {K i k : ℕ} (hi : i < 32) (h1 : k ≤ K) (h3 : 2 ^ (32 - i) ∣ k) (hK : K < kInf) :
    k + 2 ^ (31 - i) ≤ kInf ∧ 2 ^ (31 - i) ∣ k + 2 ^ (31 - i) ∧ 2 ^ (31 - i) ∣ k := by
  have hI := kInf_eq
  have e : 2 ^ (32 - i) = 2 ^ (31 - i) * 2 := by rw [← Nat.pow_succ]; congr 1; omega
  have hd : 2 ^ (31 - i) ∣ k := (Dvd.intro _ e.symm).trans h3
  refine ⟨?_, (Nat.dvd_add_right hd).2 dvd_rfl, hd⟩
  interval_cases i <;> simp only [Nat.reduceSub, Nat.reducePow] at h3 ⊢ <;> omega

/-- The start: nothing recorded, every number possible. -/
theorem halved_start {K : ℕ} (hK : K < kInf) : Halved f K 0 0 0 :=
  .inr ⟨by norm_num, Nat.zero_le _, by have hI := kInf_eq; simp only [Nat.sub_zero, Nat.zero_add]; omega, Dvd.intro_left 0 (by simp)⟩

/-- One halving: the trial is taken when nothing is recorded yet and it has a count of at least 64. -/
theorem halved_step {K i k : ℕ} {cur : EReal} (hi : i < 32) (hK : K < kInf) (hc : cnt f (val K) = 64)
    (h : Halved f K i k cur) :
    (cur ≠ 64 ∧ 64 ≤ cnt f (val (k + 2 ^ (31 - i))) →
      Halved f K (i + 1) (k + 2 ^ (31 - i)) (cnt f (val (k + 2 ^ (31 - i))) : ℕ))
    ∧ (¬ (cur ≠ 64 ∧ 64 ≤ cnt f (val (k + 2 ^ (31 - i)))) → Halved f K (i + 1) k cur) := by
  rcases h with ⟨h1, h2⟩ | ⟨h0, h1, h2, h3⟩
  · exact ⟨fun q => absurd h1 q.1, fun _ => .inl ⟨h1, h2⟩⟩
  · obtain ⟨b1, b2, b3⟩ := trial_bounds hi h1 h3 hK
    have e : 2 ^ (32 - i) = 2 ^ (31 - i) * 2 := by rw [← Nat.pow_succ]; congr 1; omega
    have e' : 32 - (i + 1) = 31 - i := by omega
    unfold Halved
    rw [e']
    rcases le_or_gt (k + 2 ^ (31 - i)) K with hle | hgt
    · have hge : 64 ≤ cnt f (val (k + 2 ^ (31 - i))) := hc ▸ cnt_anti f (val_mono hle hK.le)
      refine ⟨fun _ => ?_, fun q => absurd ⟨h0, hge⟩ q⟩
      by_cases hq : cnt f (val (k + 2 ^ (31 - i))) = 64
      · left; refine ⟨?_, hq⟩; rw [hq]; norm_num
      · right
        exact ⟨fun q => hq (by exact_mod_cast q), hle, by omega, b2⟩
    · have hle : cnt f (val (k + 2 ^ (31 - i))) ≤ 64 := hc ▸ cnt_anti f (val_mono hgt.le b1)
      refine ⟨fun q => ?_, fun q => ?_⟩
      · have hq : cnt f (val (k + 2 ^ (31 - i))) = 64 := by omega
        left; refine ⟨?_, hq⟩; rw [hq]; norm_num
      · right; exact ⟨h0, h1, by omega, b3⟩

/-- The end: either the count 64 is recorded, or all 32 halvings are done; the key number then has the count 64. -/
theorem halved_end {K i k : ℕ} {cur : EReal} (hc : cnt f (val K) = 64) (h : Halved f K i k cur) (he : cur = 64 ∨ i = 32) :
    cnt f (val k) = 64 := by
  rcases h with ⟨_, h2⟩ | ⟨h0, h1, h2, _⟩
  · exact h2
  · rcases he with he | rfl
    · exact absurd he h0
    · have : K = k := by simp only [Nat.sub_self, Nat.pow_zero] at h2; omega
      exact this ▸ hc

end Cert.Proof.Value
-- ==== Proof.Value.Rows.lean ====
/-
  The kernel's payloads read at one row, at the extended reals: the count of entries at or above a threshold column, the
  test for a count within one of 64, and the key's word; then the two loops, row by row.
-/
module

public import proofs.«01_k».proof.Proof.PI.Loops
public import proofs.«01_k».proof.Proof.Value.Keys
public import Idealize.ShloMosaic.Lib.Pointwise
public import Idealize.ShloMosaic.Lib.WordCmp

@[expose] public section

set_option maxRecDepth 16384

noncomputable section

namespace Cert.Proof.Value

open Cert.KernelIdeal Cert.KernelIdeal.Gen Cert.Proof.PI
open Idealize.ShloMosaic

/-- Row `r` of a block of encodings. -/
def row (z : FVec Ideal S256x6144 .f32) (r : Fin 256) : Fin 6144 → EReal := fun c => z (ix2 r c)

/-- A condition as a bit. -/
theorem ofBool_iff (p : Prop) [Decidable p] : BitVec.ofBool (decide p) = 1#1 ↔ p := by
  by_cases h : p <;> simp [h]

/-- A bit that is not set is clear. -/
theorem clear_of_not {b : BitVec 1} (h : ¬ b = 1#1) : b = 0#1 := (bit_ne_one_iff b).1 h

/-- Selecting on the negation of a set bit takes the second. -/
theorem select_not {α : Type} (x y : α) : Scalar.select (IntOp.xori 1#1 1#1) x y = y := by rfl

/-- So it does when another condition is joined to it. -/
theorem select_not_and {α : Type} (c : BitVec 1) (x y : α) :
    Scalar.select (IntOp.andi (IntOp.xori 1#1 1#1) c) x y = y := by
  rcases bit_eq_zero_or_eq_one c with h | h <;> subst h <;> rfl

/-- A bit widened and read as a number. -/
theorem bit_value (p : Prop) [Decidable p] :
    FloatOps.sitofp (F := Ideal) .f32 ((BitVec.ofBool (decide p)).setWidth 32) = if p then (1 : EReal) else 0 := by
  show (((((BitVec.ofBool (decide p)).setWidth 32).toInt : ℤ) : ℝ) : EReal) = _
  by_cases h : p <;> simp [h]

/-- The count the kernel takes: of the entries of each row at or above the row's threshold. -/
theorem count_apply (z : FVec Ideal S256x6144 .f32) (t : Col Ideal) (r : Fin 256) :
    shapeCast S256x1 (multiReduction (F := Ideal) .add [1] S256 (sitofp (F := Ideal) .f32 (extui 32 (cmpf .oge z
        (broadcastTo S256x6144 t broadcasts_S256x1_S256x6144)) natLt_1_32)) 0x00000000#32 reduces_S256x6144_S256 (.inl rfl) rfl)
        shapeCasts_S256_S256x1 (ix2 r 0)
      = ((cnt (row z r) (t (ix2 r 0)) : ℕ) : EReal) := by
  classical
  pointwise
  simp only [bit_value]
  rw [Finset.sum_boole]
  unfold cnt top row
  congr!

/-! ### The constants -/

theorem w64 : Ideal.ofBits .f32 0x42800000#32 = 64 := by
  simp [Ideal.ofBits, Ideal.ieee, -EReal.coe_mul]; norm_num; rfl
theorem w1 : Ideal.ofBits .f32 0x3F800000#32 = 1 := by
  simp [Ideal.ofBits, Ideal.ieee, -EReal.coe_mul]; norm_num
theorem w0 : Ideal.ofBits .f32 0x00000000#32 = 0 := by simp [Ideal.ofBits, Ideal.ieee]
theorem wInf : Ideal.ofBits .f32 0x7F800000#32 = ⊤ := by simp [Ideal.ofBits, Ideal.ieee]
theorem wNegInf : Ideal.ofBits .f32 0xFF800000#32 = ⊥ := by simp [Ideal.ofBits, Ideal.ieee]
theorem wLow : Ideal.ofBits .f32 0xCF000000#32 = ((-2147483648 : ℝ) : EReal) := by
  simp [Ideal.ofBits, Ideal.ieee, -EReal.coe_mul]; norm_num

/-! ### Within one of 64 -/

/-- The test for a count within one of 64. -/
def near (x : EReal) : BitVec 1 := FloatOps.cmpf (F := Ideal) (φ := .f32) .ole (max (x - 64) (-(x - 64))) 1

theorem near_nat (k : ℕ) : near ((k : ℕ) : EReal) = 1#1 ↔ 63 ≤ k ∧ k ≤ 65 := by
  unfold near
  show BitVec.ofBool (decide _) = 1#1 ↔ _
  rw [ofBool_iff, max_le_iff]
  have e : ((k : ℕ) : EReal) - 64 = (((k : ℝ) - 64 : ℝ) : EReal) := by
    rw [EReal.coe_sub]; rfl
  rw [e, ← EReal.coe_neg, ← EReal.coe_one, EReal.coe_le_coe_iff, EReal.coe_le_coe_iff]
  constructor
  · rintro ⟨h1, h2⟩
    constructor
    · have : (63 : ℝ) ≤ (k : ℝ) := by linarith
      exact_mod_cast this
    · have : (k : ℝ) ≤ 65 := by linarith
      exact_mod_cast this
  · rintro ⟨h1, h2⟩
    have h1' : (63 : ℝ) ≤ (k : ℝ) := by exact_mod_cast h1
    have h2' : (k : ℝ) ≤ 65 := by exact_mod_cast h2
    constructor <;> linarith

theorem k64_eq : (k64 : Ideal .f32) = 64 := w64

theorem nat64 (k : ℕ) : ((k : ℕ) : EReal) = 64 ↔ k = 64 := by
  rw [show (64 : EReal) = ((64 : ℕ) : EReal) from by norm_num]; exact_mod_cast Iff.rfl
theorem le64 (k : ℕ) : (64 : EReal) ≤ ((k : ℕ) : EReal) ↔ 64 ≤ k := by
  rw [show (64 : EReal) = ((64 : ℕ) : EReal) from by norm_num]; exact_mod_cast Iff.rfl

/-! ### The first loop -/

/-- What holds of a row throughout: the recorded count is a natural number, and if it is within one of 64 it is the
    count at the recorded threshold. -/
def Sound (f : Fin 6144 → EReal) (rf cur : EReal) : Prop :=
  ∃ k : ℕ, cur = ((k : ℕ) : EReal) ∧ (near cur = 1#1 → cnt f rf = k)

theorem sound_start (x : Vec Ideal S256x768 .f32) (w : Vec Ideal S768x6144 .f32) (b : Vec Ideal S1x6144 .f32) (r : Fin 256) :
    Sound (row (k0_pay14 x w b) r) (k0_pay21 x w b (ix2 r 0)) (k0_pay20 x w b (ix2 r 0)) := by
  have h := count_apply (k0_pay14 x w b) (k0_pay18 x w b) r
  change k0_pay20 x w b (ix2 r 0) = _ at h
  refine ⟨_, h, fun hn => ?_⟩
  have e : k0_pay21 x w b (ix2 r 0)
      = Scalar.select (near (k0_pay20 x w b (ix2 r 0))) (k0_pay18 x w b (ix2 r 0)) (Ideal.ofBits .f32 0x00000000#32) := by
    unfold near; rw [← w64, ← w1]; rfl
  rw [e, hn]; rfl

theorem sound_step (z : FVec Ideal S256x6144 .f32) (s : St1 Ideal) (r : Fin 256)
    (h : Sound (row z r) (s.2.2.2.2.2.1 (ix2 r 0)) (s.2.2.2.2.2.2.1 (ix2 r 0))) :
    Sound (row z r) ((step1 z s).2.2.2.2.2.1 (ix2 r 0)) ((step1 z s).2.2.2.2.2.2.1 (ix2 r 0)) := by
  obtain ⟨n, lo, clo, hi, chi, rf, cur, side⟩ := s
  simp only [step1] at h ⊢
  have hc := count_apply z (k0_pay34 k64 lo clo hi chi) r
  change k0_pay35 k64 z lo clo hi chi (ix2 r 0) = _ at hc
  have e36 : k0_pay36 k64 cur (ix2 r 0) = IntOp.xori (near (cur (ix2 r 0))) 1#1 := by
    unfold near; rw [← w64, ← w1]; rfl
  have e37 : k0_pay37 k64 z lo clo hi chi rf cur (ix2 r 0)
      = Scalar.select (IntOp.andi (k0_pay36 k64 cur (ix2 r 0)) (near (k0_pay35 k64 z lo clo hi chi (ix2 r 0))))
          (k0_pay34 k64 lo clo hi chi (ix2 r 0)) (rf (ix2 r 0)) := by
    unfold near; rw [← w64, ← w1]; rfl
  have e7 : k0_pay7 cur (k0_pay35 k64 z lo clo hi chi) (k0_pay36 k64 cur) (ix2 r 0)
      = Scalar.select (k0_pay36 k64 cur (ix2 r 0)) (k0_pay35 k64 z lo clo hi chi (ix2 r 0)) (cur (ix2 r 0)) := rfl
  rw [e7, e37, e36]
  by_cases hn : near (cur (ix2 r 0)) = 1#1
  · rw [hn, select_not, select_not_and]; exact h
  · rw [clear_of_not hn]
    refine ⟨_, hc, fun hq => ?_⟩
    change near (k0_pay35 k64 z lo clo hi chi (ix2 r 0)) = 1#1 at hq
    rw [hq]
    rfl

theorem sound_repeat (z : FVec Ideal S256x6144 .f32) (r : Fin 256) : ∀ (k : ℕ) (s : St1 Ideal),
    Sound (row z r) (s.2.2.2.2.2.1 (ix2 r 0)) (s.2.2.2.2.2.2.1 (ix2 r 0)) →
    Sound (row z r) ((repeat1 z k s).2.2.2.2.2.1 (ix2 r 0)) ((repeat1 z k s).2.2.2.2.2.2.1 (ix2 r 0))
  | 0, _, h => h
  | k + 1, s, h => by
    unfold repeat1
    split
    · exact sound_repeat z r k _ (sound_step z s r h)
    · exact h

/-! ### The second loop -/

/-- The kernel's inverse of the sort key, at a word. -/
theorem unsort (t : BitVec 32) :
    Scalar.select (IntOp.cmpi .slt t 0#32) (IntOp.xori t 2147483647#32) t = sortableKey t := by
  rw [WordCmp.cmpi_slt_zero, WordCmp.select_decide]
  cases h : t.msb
  · have := BitVec.msb_eq_false_iff_two_mul_lt.mp h
    rw [if_neg (by omega), sortableKey_of_msb_false t h]
  · have := BitVec.msb_eq_true_iff_two_mul_ge.mp h
    rw [if_pos (by omega), sortableKey_of_msb_true t h]
    rfl

/-- The key moved up by bit `31 - i`. -/
theorem key_bit {i : ℕ} (hi : i < 32) (k : ℕ) :
    IntOp.addi (key k) (Scalar.shli 1#32 (Scalar.subi 31#32 (BitVec.ofNat 32 i))) = key (k + 2 ^ (31 - i)) := by
  have e : Scalar.shli 1#32 (Scalar.subi 31#32 (BitVec.ofNat 32 i)) = BitVec.ofNat 32 (2 ^ (31 - i)) := by
    interval_cases i <;> decide
  rw [e]
  show BitVec.ofNat 32 (k + 2 ^ 31) + BitVec.ofNat 32 (2 ^ (31 - i)) = BitVec.ofNat 32 (k + 2 ^ (31 - i) + 2 ^ 31)
  rw [← BitVec.ofNat_add]
  congr 1
  omega

/-- A row's part of the second loop's state after `i` trips. -/
def Row2 (f : Fin 6144 → EReal) (K i : ℕ) (r : Fin 256) (s : St2 Ideal) : Prop :=
  s.1 = BitVec.ofNat 32 i ∧ ∃ k, s.2.1 (ix2 r 0) = key k ∧ Halved f K i k (s.2.2 (ix2 r 0))

theorem row2_step (z : FVec Ideal S256x6144 .f32) (s : St2 Ideal) (r : Fin 256) {K i : ℕ} (hi : i < 32) (hK : K < kInf)
    (hc : cnt (row z r) (val K) = 64) (h : Row2 (row z r) K i r s) : Row2 (row z r) K (i + 1) r (step2 z s) := by
  obtain ⟨n, ky, cur⟩ := s
  obtain ⟨hn, k, hk, hh⟩ := h
  simp only at hn hk hh
  subst hn
  have e9 : k0_pay9 (BitVec.ofNat 32 i) ky (ix2 r 0) = key (k + 2 ^ (31 - i)) := by
    rw [← key_bit hi, ← hk]; rfl
  have e10 : k0_pay10 z (BitVec.ofNat 32 i) ky (ix2 r 0)
      = ((cnt (row z r) (val (k + 2 ^ (31 - i))) : ℕ) : EReal) := by
    have ev : bitcastToFloat (F := Ideal) .f32 (select (cmpi .slt (k0_pay9 (BitVec.ofNat 32 i) ky) (broadcast S256x1 0#32))
        (xori (k0_pay9 (BitVec.ofNat 32 i) ky) (broadcast S256x1 2147483647#32)) (k0_pay9 (BitVec.ofNat 32 i) ky)) (ix2 r 0)
        = val (k + 2 ^ (31 - i)) := by
      unfold val word
      rw [← e9, ← unsort]
      rfl
    rw [← ev]
    exact count_apply z _ r
  have e11 : k0_pay11 z k64 (BitVec.ofNat 32 i) ky cur (ix2 r 0)
      = IntOp.andi (BitVec.ofBool (decide (cur (ix2 r 0) ≠ 64)))
          (BitVec.ofBool (decide ((64 : EReal) ≤ k0_pay10 z (BitVec.ofNat 32 i) ky (ix2 r 0)))) := by
    rw [← w64]; rfl
  have e11' : k0_pay11 z k64 (BitVec.ofNat 32 i) ky cur (ix2 r 0) = 1#1
      ↔ cur (ix2 r 0) ≠ 64 ∧ 64 ≤ cnt (row z r) (val (k + 2 ^ (31 - i))) := by
    rw [e11, e10, ← le64]
    generalize hp : decide (cur (ix2 r 0) ≠ 64) = p
    generalize hq : decide ((64 : EReal) ≤ ((cnt (row z r) (val (k + 2 ^ (31 - i))) : ℕ) : EReal)) = q
    rw [← decide_eq_true_iff (p := cur (ix2 r 0) ≠ 64), hp,
      ← decide_eq_true_iff (p := (64 : EReal) ≤ ((cnt (row z r) (val (k + 2 ^ (31 - i))) : ℕ) : EReal)), hq]
    cases p <;> cases q <;> decide
  have e12 : k0_pay12 z k64 (BitVec.ofNat 32 i) ky cur (ix2 r 0)
      = Scalar.select (k0_pay11 z k64 (BitVec.ofNat 32 i) ky cur (ix2 r 0)) (k0_pay9 (BitVec.ofNat 32 i) ky (ix2 r 0))
          (ky (ix2 r 0)) := rfl
  have e13 : k0_pay13 z k64 (BitVec.ofNat 32 i) ky cur (ix2 r 0)
      = Scalar.select (k0_pay11 z k64 (BitVec.ofNat 32 i) ky cur (ix2 r 0)) (k0_pay10 z (BitVec.ofNat 32 i) ky (ix2 r 0))
          (cur (ix2 r 0)) := rfl
  obtain ⟨s1, s2⟩ := halved_step (row z r) hi hK hc hh
  refine ⟨?_, ?_⟩
  · show Scalar.addi (BitVec.ofNat 32 i) 1#32 = _
    exact (BitVec.ofNat_add i 1).symm
  · show ∃ k', k0_pay12 z k64 (BitVec.ofNat 32 i) ky cur (ix2 r 0) = key k'
      ∧ Halved (row z r) K (i + 1) k' (k0_pay13 z k64 (BitVec.ofNat 32 i) ky cur (ix2 r 0))
    rw [e12, e13]
    by_cases ht : k0_pay11 z k64 (BitVec.ofNat 32 i) ky cur (ix2 r 0) = 1#1
    · refine ⟨k + 2 ^ (31 - i), ?_, ?_⟩
      · rw [ht]; exact e9
      · rw [ht]
        show Halved _ _ _ _ (k0_pay10 z (BitVec.ofNat 32 i) ky (ix2 r 0))
        rw [e10]; exact s1 (e11'.1 ht)
    · refine ⟨k, ?_, ?_⟩
      · rw [clear_of_not ht]; exact hk
      · rw [clear_of_not ht]; exact s2 fun q => ht (e11'.2 q)

/-- The second loop's exit value, the greatest over the block's rows of 1 where the count isn't 64 and 0 where it is, is
    at least 1 when some row's count isn't 64. -/
theorem pay8_ge (cur : Col Ideal) (r : Fin 256) (h : ¬ cur (ix2 r 0) = 64) : (1 : EReal) ≤ k0_pay8 k64 cur := by
  unfold k0_pay8
  pointwise
  refine (Finset.le_fold_max _).2 (.inr ⟨(r, 0), Finset.mem_univ _, ?_⟩)
  rw [if_pos (by rw [w64]; exact h)]

/-- When the loop's test fails before trip 32, every row has its count recorded. -/
theorem test2_false (s : St2 Ideal) {i : ℕ} (hi : i < 32) (hn : s.1 = BitVec.ofNat 32 i) (ht : ¬ test2 s = 1#1) (r : Fin 256) :
    s.2.2 (ix2 r 0) = 64 := by
  by_contra hne
  refine ht ?_
  unfold test2
  have h1 : Scalar.cmpi .slt s.1 32#32 = 1#1 := by rw [hn]; interval_cases i <;> decide
  rw [h1]
  have h2 := pay8_ge s.2.2 r hne
  have h3 : Scalar.cmpf (F := Ideal) .ogt (k0_pay8 k64 s.2.2) (Scalar.ofBits .f32 0#32) = 1#1 := by
    show BitVec.ofBool (decide _) = 1#1
    rw [ofBool_iff]
    refine lt_of_lt_of_le ?_ h2
    show Ideal.ofBits .f32 0x00000000#32 < 1
    rw [w0]; exact zero_lt_one
  rw [h3]
  rfl

theorem row2_repeat (z : FVec Ideal S256x6144 .f32) (r : Fin 256) {K : ℕ} (hK : K < kInf)
    (hc : cnt (row z r) (val K) = 64) : ∀ (j i : ℕ) (s : St2 Ideal), i + j = 32 → Row2 (row z r) K i r s →
    cnt (row z r) (Ideal.ofBits .f32 (sortableKey ((repeat2 z j s).2.1 (ix2 r 0)))) = 64
  | 0, i, s, hij, h => by
    obtain ⟨hn, k, hk, hh⟩ := h
    show cnt (row z r) (Ideal.ofBits .f32 (sortableKey (s.2.1 (ix2 r 0)))) = 64
    rw [hk]
    exact halved_end (row z r) hc hh (.inr (by omega))
  | j + 1, i, s, hij, h => by
    unfold repeat2
    split
    · exact row2_repeat z r hK hc j (i + 1) _ (by omega) (row2_step z s r (by omega) hK hc h)
    · rename_i ht
      obtain ⟨hn, k, hk, hh⟩ := h
      rw [hk]
      exact halved_end (row z r) hc hh (.inl (test2_false s (by omega) hn ht r))

end Cert.Proof.Value
-- ==== Proof.Value.Mask.lean ====
/-
  The kernel's sparse block read at one entry: an entry is kept exactly when it is at or above a threshold that 64
  entries of its row reach.
-/
module

public import proofs.«01_k».proof.Proof.PI.Run
public import proofs.«01_k».proof.Proof.Value.Rows

@[expose] public section

set_option maxRecDepth 16384

noncomputable section

namespace Cert.Proof.Value

open Cert.KernelIdeal Cert.KernelIdeal.Gen Cert.Proof.PI
open Idealize.ShloMosaic

theorem wSum : Scalar.addf (F := Ideal) (φ := .f32) (Scalar.ofBits .f32 0x42800000#32) (Scalar.ofBits .f32 0x3F800000#32)
    = ((65 : ℕ) : EReal) := by
  show Ideal.ofBits .f32 0x42800000#32 + Ideal.ofBits .f32 0x3F800000#32 = _
  rw [w64, w1]; norm_num

theorem wDiff : Scalar.subf (F := Ideal) (φ := .f32) (Scalar.ofBits .f32 0x42800000#32) (Scalar.ofBits .f32 0x3F800000#32)
    = ((63 : ℕ) : EReal) := by
  show Ideal.ofBits .f32 0x42800000#32 - Ideal.ofBits .f32 0x3F800000#32 = _
  rw [w64, w1]
  show (64 : EReal) - 1 = 63
  have e : (((64 : ℝ) - 1 : ℝ) : EReal) = ((63 : ℝ) : EReal) := by norm_num
  exact (EReal.coe_sub 64 1).symm.trans e

theorem wBelow : Scalar.subf (F := Ideal) (φ := .f32) (Scalar.ofBits .f32 0x00000000#32) (Scalar.ofBits .f32 0x7F800000#32)
    = (⊥ : EReal) := by
  show Ideal.ofBits .f32 0x00000000#32 - Ideal.ofBits .f32 0x7F800000#32 = _
  rw [w0, wInf]; simp

/-- The threshold of a row: the first loop's where its count is near, else the second's. -/
def thr (rf cur : EReal) (ky : BitVec 32) : EReal := Scalar.select (near cur) rf (Ideal.ofBits .f32 (sortableKey ky))

/-- The base mask: at or above the row's threshold. -/
theorem pay30_apply (z : FVec Ideal S256x6144 .f32) (rf cur : Col Ideal) (ky : IVec S256x1 32) (r : Fin 256) (c : Fin 6144) :
    k0_pay30 z rf cur ky (ix2 r c)
      = BitVec.ofBool (decide (thr (rf (ix2 r 0)) (cur (ix2 r 0)) (ky (ix2 r 0)) ≤ z (ix2 r c))) := by
  unfold thr near
  rw [← unsort, ← w64, ← w1]
  unfold k0_pay30 k0_pay27
  pointwise
  rfl

theorem pay27_apply (cur : Col Ideal) (r : Fin 256) : k0_pay27 cur (ix2 r 0) = near (cur (ix2 r 0)) := by
  unfold near
  rw [← w64, ← w1]
  rfl

open Classical in
/-- The base mask's entries, or plus infinity off it. -/
theorem pay31_apply (z : FVec Ideal S256x6144 .f32) (rf cur : Col Ideal) (ky : IVec S256x1 32) (r : Fin 256) (c : Fin 6144) :
    k0_pay31 z rf cur ky (ix2 r c)
      = if thr (rf (ix2 r 0)) (cur (ix2 r 0)) (ky (ix2 r 0)) ≤ z (ix2 r c) then z (ix2 r c) else ⊤ := by
  show Scalar.select (k0_pay30 z rf cur ky (ix2 r c)) (z (ix2 r c)) (Ideal.ofBits .f32 0x7F800000#32) = _
  rw [pay30_apply, wInf, Scalar.select_decide]

/-- A base entry, less one dropped, or one added: the final mask's bits as conditions. -/
theorem select_keep (n a b : BitVec 1) (p q s : Prop) [Decidable p] [Decidable q] [Decidable s] (x y : EReal) :
    Scalar.select (IntOp.ori (IntOp.andi (BitVec.ofBool (decide p))
        (IntOp.xori (IntOp.andi (IntOp.andi n a) (BitVec.ofBool (decide q))) 1#1))
        (IntOp.andi (IntOp.andi n b) (BitVec.ofBool (decide s)))) x y
      = if (p ∧ ¬ (n = 1#1 ∧ a = 1#1 ∧ q)) ∨ (n = 1#1 ∧ b = 1#1 ∧ s) then x else y := by
  rcases bit_eq_zero_or_eq_one n with h | h <;> subst h <;>
  rcases bit_eq_zero_or_eq_one a with h | h <;> subst h <;>
  rcases bit_eq_zero_or_eq_one b with h | h <;> subst h <;>
  by_cases hp : p <;> by_cases hq : q <;> by_cases hs : s <;> simp [hp, hq, hs] <;> rfl

open Classical in
/-- The kernel's sparse entry, as conditions on the row. -/
theorem pay32_apply (z : FVec Ideal S256x6144 .f32) (rf cur : Col Ideal) (ky : IVec S256x1 32) (r : Fin 256) (c : Fin 6144)
    (t : EReal) (ht : thr (rf (ix2 r 0)) (cur (ix2 r 0)) (ky (ix2 r 0)) = t) :
    k0_pay32 z cur (k0_pay27 cur) (k0_pay30 z rf cur ky) (k0_pay31 z rf cur ky) (ix2 r c)
      = if (t ≤ row z r c ∧ ¬ (near (cur (ix2 r 0)) = 1#1 ∧ cur (ix2 r 0) = ((65 : ℕ) : EReal)
            ∧ row z r c = Finset.univ.fold min ⊤ fun k => if t ≤ row z r k then row z r k else ⊤))
          ∨ (near (cur (ix2 r 0)) = 1#1 ∧ cur (ix2 r 0) = ((63 : ℕ) : EReal)
            ∧ row z r c = Finset.univ.fold max ⊥ fun k => if t ≤ row z r k then ⊥ else row z r k)
        then row z r c else 0 := by
  unfold k0_pay32
  rw [wSum, wDiff, wBelow]
  pointwise
  simp only [pay31_apply, pay30_apply, pay27_apply, ht, wInf, wNegInf, Scalar.select_decide]
  rw [select_keep]
  simp only [ofBool_iff]
  congr!

/-- The sparse entry when the row's threshold is a sound one and 64 entries reach `T`. -/
theorem kept (z : FVec Ideal S256x6144 .f32) (rf cur : Col Ideal) (ky : IVec S256x1 32) (r : Fin 256) (c : Fin 6144)
    {T : EReal} (hT : cnt (row z r) T = 64) (hs : Sound (row z r) (rf (ix2 r 0)) (cur (ix2 r 0)))
    (hb : ¬ near (cur (ix2 r 0)) = 1#1 → cnt (row z r) (Ideal.ofBits .f32 (sortableKey (ky (ix2 r 0)))) = 64) :
    k0_pay32 z cur (k0_pay27 cur) (k0_pay30 z rf cur ky) (k0_pay31 z rf cur ky) (ix2 r c)
      = open Classical in if T ≤ row z r c then row z r c else 0 := by
  classical
  rw [pay32_apply z rf cur ky r c _ rfl]
  refine if_congr ?_ rfl rfl
  obtain ⟨k, hk, hn⟩ := hs
  by_cases h : near (cur (ix2 r 0)) = 1#1
  · have ht : thr (rf (ix2 r 0)) (cur (ix2 r 0)) (ky (ix2 r 0)) = rf (ix2 r 0) := by unfold thr; rw [h]; rfl
    have hc := hn h
    have hkk : 63 ≤ k ∧ k ≤ 65 := (near_nat k).1 (by rw [← hk]; exact h)
    have e65 : cur (ix2 r 0) = ((65 : ℕ) : EReal) ↔ k = 65 := by rw [hk]; exact_mod_cast Iff.rfl
    have e63 : cur (ix2 r 0) = ((63 : ℕ) : EReal) ↔ k = 63 := by rw [hk]; exact_mod_cast Iff.rfl
    rw [ht, e65, e63]
    obtain rfl | rfl | rfl : k = 63 ∨ k = 64 ∨ k = 65 := by omega
    · have := add_greatest (row z r) (s := rf (ix2 r 0)) (t := T) (by omega) c
      rw [← this]
      simp [h]
    · have := keep_same (row z r) (s := rf (ix2 r 0)) (t := T) (by omega) c
      rw [← this]
      simp
    · have := drop_least (row z r) (s := rf (ix2 r 0)) (t := T) (by omega) c
      rw [← this]
      simp [h]
  · have ht : thr (rf (ix2 r 0)) (cur (ix2 r 0)) (ky (ix2 r 0)) = Ideal.ofBits .f32 (sortableKey (ky (ix2 r 0))) := by
      unfold thr; rw [clear_of_not h]; rfl
    rw [ht]
    have := keep_same (row z r) (s := Ideal.ofBits .f32 (sortableKey (ky (ix2 r 0)))) (t := T) (by rw [hb h, hT]) c
    rw [← this]
    simp [h]

/-- The second loop's start, for a row the first left without a near count. -/
theorem row2_start (f : Fin 6144 → EReal) {K : ℕ} (hK : K < kInf) (cur : Col Ideal) (r : Fin 256)
    (h : ¬ near (cur (ix2 r 0)) = 1#1) : Row2 f K 0 r (0#32, k0_pay28 (F := Ideal), k0_pay29 cur) := by
  refine ⟨rfl, 0, ?_, ?_⟩
  · show FloatOps.fptosi (F := Ideal) 32 (Ideal.ofBits .f32 0xCF000000#32) = _
    rw [wLow]
    show Ideal.fptosi 32 _ = BitVec.ofNat 32 (0 + 2 ^ 31)
    have e : ((-2147483648 : ℝ)) = ((-2147483648 : ℤ) : ℝ) := by norm_num
    rw [e]
    unfold Ideal.fptosi
    rw [Ideal.toIntClamped_coe]
    norm_num
    rfl
  · have e : k0_pay29 cur (ix2 r 0)
        = Scalar.select (k0_pay27 cur (ix2 r 0)) (Ideal.ofBits .f32 0x42800000#32) (Ideal.ofBits .f32 0x00000000#32) := rfl
    show Halved f K 0 0 (k0_pay29 cur (ix2 r 0))
    rw [e, pay27_apply, clear_of_not h]
    show Halved f K 0 0 (Ideal.ofBits .f32 0x00000000#32)
    rw [w0]
    exact halved_start f hK

/-- A sound start leaves a sound end. -/
theorem sound_ends (z : FVec Ideal S256x6144 .f32) (s e : St1 Ideal) (r : Fin 256) {rf cur : Col Ideal}
    (h : Sound (row z r) (rf (ix2 r 0)) (cur (ix2 r 0))) (e1 : s.2.2.2.2.2.1 = rf) (e2 : s.2.2.2.2.2.2.1 = cur) (k : ℕ)
    (he : e = repeat1 z k s) : Sound (row z r) (e.2.2.2.2.2.1 (ix2 r 0)) (e.2.2.2.2.2.2.1 (ix2 r 0)) := by
  subst e1 e2 he
  exact sound_repeat z r k s h

theorem start1_rf (x : Vec Ideal S256x768 .f32) (w : Vec Ideal S768x6144 .f32) (b : Vec Ideal S1x6144 .f32) :
    (start1 x w b).2.2.2.2.2.1 = k0_pay21 x w b := by
  unfold start1; rfl

theorem start1_cur (x : Vec Ideal S256x768 .f32) (w : Vec Ideal S768x6144 .f32) (b : Vec Ideal S1x6144 .f32) :
    (start1 x w b).2.2.2.2.2.2.1 = k0_pay20 x w b := by
  unfold start1; rfl

theorem end1_eq (x : Vec Ideal S256x768 .f32) (w : Vec Ideal S768x6144 .f32) (b : Vec Ideal S1x6144 .f32) :
    end1 x w b = repeat1 (k0_pay14 x w b) 26 (start1 x w b) := by
  unfold end1
  with_unfolding_none rfl

/-- What the first loop leaves of a row. -/
theorem sound_end (x : Vec Ideal S256x768 .f32) (w : Vec Ideal S768x6144 .f32) (b : Vec Ideal S1x6144 .f32) (r : Fin 256) :
    Sound (row (k0_pay14 x w b) r) ((end1 x w b).2.2.2.2.2.1 (ix2 r 0)) ((end1 x w b).2.2.2.2.2.2.1 (ix2 r 0)) :=
  sound_ends (k0_pay14 x w b) (start1 x w b) (end1 x w b) r (sound_start x w b r) (start1_rf x w b) (start1_cur x w b) 26
    (end1_eq x w b)

/-- What the second loop leaves of a row the first left without a near count. -/
theorem halved_row (z : FVec Ideal S256x6144 .f32) (cur : Col Ideal) (r : Fin 256) {K : ℕ} (hK : K < kInf)
    (hT : cnt (row z r) (val K) = 64) (h : ¬ near (cur (ix2 r 0)) = 1#1) :
    cnt (row z r) (Ideal.ofBits .f32 (sortableKey ((end2 z cur).2.1 (ix2 r 0)))) = 64 := by
  unfold end2
  exact row2_repeat z r hK hT 32 0 (0#32, k0_pay28 (F := Ideal), k0_pay29 cur) (Nat.zero_add 32)
    (row2_start (row z r) hK cur r h)

/-- The kernel's sparse block at an entry: kept when at or above the number that 64 entries of the row reach, provided that
    a row the search leaves unsettled has such a number among the finite words' values. -/
theorem sparse_apply (x : Vec Ideal S256x768 .f32) (w : Vec Ideal S768x6144 .f32) (b : Vec Ideal S1x6144 .f32) (r : Fin 256)
    (c : Fin 6144) {T : EReal} (hT : cnt (row (k0_pay14 x w b) r) T = 64)
    (hd : ¬ near ((end1 x w b).2.2.2.2.2.2.1 (ix2 r 0)) = 1#1 → ∃ K, K < kInf ∧ cnt (row (k0_pay14 x w b) r) (val K) = 64) :
    sparse x w b (ix2 r c)
      = open Classical in if T ≤ k0_pay14 x w b (ix2 r c) then k0_pay14 x w b (ix2 r c) else 0 := by
  unfold sparse
  refine kept (k0_pay14 x w b) _ _ _ r c hT (sound_end x w b r) fun h => ?_
  obtain ⟨K, hK, hc⟩ := hd h
  exact halved_row (k0_pay14 x w b) _ r hK hc h

end Cert.Proof.Value
-- ==== Proof.Value.Search.lean ====
/-
  The interpolating search followed row by row: one turn of it and its start as functions of a row's six numbers, and that
  the kernel's first loop either leaves a row's count within one of 64 or has taken all of its 26 turns on it.
-/
module

public import proofs.«01_k».proof.Proof.Value.Mask

@[expose] public section

set_option maxRecDepth 16384

noncomputable section

namespace Cert.Proof.Value

open Cert.KernelIdeal Cert.KernelIdeal.Gen Cert.Proof.PI
open Idealize.ShloMosaic

/-- What the search holds of a row: the two ends with their counts, the current count, and the side last moved. -/
@[ext] structure Held where
  lo : EReal
  clo : EReal
  hi : EReal
  chi : EReal
  cur : EReal
  side : EReal

/-- A float's value from its word. -/
abbrev wd (b : BitVec 32) : EReal := Ideal.ofBits .f32 b

/-- The next threshold: between the ends in proportion to the counts, or halfway. -/
def Held.next (s : Held) : EReal :=
  Scalar.select
    (IntOp.andi
      (FloatOps.cmpf (F := Ideal) (φ := .f32) .ogt
        (s.lo + Ideal.div (s.clo - wd 0x42800000#32) (s.clo - s.chi) * (s.hi - s.lo)) s.lo)
      (FloatOps.cmpf (F := Ideal) (φ := .f32) .olt
        (s.lo + Ideal.div (s.clo - wd 0x42800000#32) (s.clo - s.chi) * (s.hi - s.lo)) s.hi))
    (s.lo + Ideal.div (s.clo - wd 0x42800000#32) (s.clo - s.chi) * (s.hi - s.lo))
    (wd 0x3F000000#32 * (s.lo + s.hi))

/-- Whether the row is still searched, -/
def Held.live (s : Held) : BitVec 1 := IntOp.xori (near s.cur) 1#1

/-- and whether the count `c` moves its low end -/
def Held.up (s : Held) (c : EReal) : BitVec 1 :=
  IntOp.andi s.live (FloatOps.cmpf (F := Ideal) (φ := .f32) .ogt c (wd 0x42800000#32))

/-- or its high end. -/
def Held.down (s : Held) (c : EReal) : BitVec 1 :=
  IntOp.andi s.live (FloatOps.cmpf (F := Ideal) (φ := .f32) .olt c (wd 0x42800000#32))

/-- One turn at the threshold `t` with count `c`. -/
def Held.moved (s : Held) (t c : EReal) : Held where
  lo := Scalar.select (s.up c) t s.lo
  clo := Scalar.select (s.up c) c
    (Scalar.select (IntOp.andi (s.down c) (FloatOps.cmpf (F := Ideal) (φ := .f32) .oeq s.side (wd 0xBF800000#32)))
      (wd 0x42800000#32 + (s.clo - wd 0x42800000#32) * wd 0x3F000000#32) s.clo)
  hi := Scalar.select (s.down c) t s.hi
  chi := Scalar.select (s.down c) c
    (Scalar.select (IntOp.andi (s.up c) (FloatOps.cmpf (F := Ideal) (φ := .f32) .oeq s.side (wd 0x3F800000#32)))
      (wd 0x42800000#32 + (s.chi - wd 0x42800000#32) * wd 0x3F000000#32) s.chi)
  cur := Scalar.select s.live c s.cur
  side := Scalar.select (s.up c) (wd 0x3F800000#32) (Scalar.select (s.down c) (wd 0xBF800000#32) s.side)

/-- One turn on a row. -/
def turned (f : Fin 6144 → EReal) (s : Held) : Held := s.moved s.next ((cnt f s.next : ℕ) : EReal)

/-- A row's state in the first loop. -/
def held (s : St1 Ideal) (r : Fin 256) : Held where
  lo := s.2.1 (ix2 r 0)
  clo := s.2.2.1 (ix2 r 0)
  hi := s.2.2.2.1 (ix2 r 0)
  chi := s.2.2.2.2.1 (ix2 r 0)
  cur := s.2.2.2.2.2.2.1 (ix2 r 0)
  side := s.2.2.2.2.2.2.2 (ix2 r 0)

theorem held_step (z : FVec Ideal S256x6144 .f32) (s : St1 Ideal) (r : Fin 256) :
    held (step1 z s) r = turned (row z r) (held s r) := by
  obtain ⟨n, lo, clo, hi, chi, rf, cur, side⟩ := s
  have hc := count_apply z (k0_pay34 k64 lo clo hi chi) r
  change k0_pay35 k64 z lo clo hi chi (ix2 r 0) = _ at hc
  have ht : k0_pay34 k64 lo clo hi chi (ix2 r 0) = (held (n, lo, clo, hi, chi, rf, cur, side) r).next := rfl
  unfold turned
  rw [← ht, ← hc]
  have hl : k0_pay36 k64 cur (ix2 r 0) = (held (n, lo, clo, hi, chi, rf, cur, side) r).live := by
    unfold Held.live near; rw [← w64, ← w1]; rfl
  have hu : k0_pay38 k64 z lo clo hi chi cur (ix2 r 0)
      = (held (n, lo, clo, hi, chi, rf, cur, side) r).up (k0_pay35 k64 z lo clo hi chi (ix2 r 0)) := by
    unfold Held.up; rw [← hl]; rfl
  have hd : k0_pay39 k64 z lo clo hi chi cur (ix2 r 0)
      = (held (n, lo, clo, hi, chi, rf, cur, side) r).down (k0_pay35 k64 z lo clo hi chi (ix2 r 0)) := by
    unfold Held.down; rw [← hl]; rfl
  unfold Held.moved
  rw [← hu, ← hd, ← hl]
  rfl

/-! ### The loop -/

/-- The first loop's exit value is at least 1 when some row's count is not near. -/
theorem pay1_ge (cur : Col Ideal) (r : Fin 256) (h : ¬ near (cur (ix2 r 0)) = 1#1) : (1 : EReal) ≤ k0_pay1 k64 cur := by
  unfold k0_pay1
  pointwise
  refine (Finset.le_fold_max _).2 (.inr ⟨(r, 0), Finset.mem_univ _, ?_⟩)
  have hn : BitVec.ofBool (decide (FloatOps.absf (F := Ideal) (φ := .f32) (cur (ix2 r 0) - Ideal.ofBits .f32 0x42800000#32) ≤ 1))
      = near (cur (ix2 r 0)) := by unfold near; rw [← w64]; rfl
  show 1 ≤ Scalar.select (IntOp.xori (BitVec.ofBool (decide (FloatOps.absf (F := Ideal) (φ := .f32)
    (cur (ix2 r 0) - Ideal.ofBits .f32 0x42800000#32) ≤ 1))) 1#1) (1 : EReal) 0
  rw [hn, clear_of_not h]
  exact le_refl (1 : EReal)

/-- When the loop's test fails before turn 26, every row's count is near. -/
theorem test1_false (s : St1 Ideal) {i : ℕ} (hi : i < 26) (hn : s.1 = BitVec.ofNat 32 i) (ht : ¬ test1 s = 1#1) (r : Fin 256) :
    near (s.2.2.2.2.2.2.1 (ix2 r 0)) = 1#1 := by
  by_contra hne
  refine ht ?_
  unfold test1
  have h1 : Scalar.cmpi .slt s.1 26#32 = 1#1 := by rw [hn]; interval_cases i <;> decide
  rw [h1]
  have h2 := pay1_ge s.2.2.2.2.2.2.1 r hne
  have h3 : Scalar.cmpf (F := Ideal) .ogt (k0_pay1 k64 s.2.2.2.2.2.2.1) (Scalar.ofBits .f32 0#32) = 1#1 := by
    show BitVec.ofBool (decide _) = 1#1
    rw [ofBool_iff]
    refine lt_of_lt_of_le ?_ h2
    show Ideal.ofBits .f32 0x00000000#32 < 1
    rw [w0]; exact zero_lt_one
  rw [h3]
  rfl

/-- The loop leaves a near count, or has taken every turn. -/
theorem held_repeat (z : FVec Ideal S256x6144 .f32) (r : Fin 256) : ∀ (j i : ℕ) (s : St1 Ideal), i + j = 26 →
    s.1 = BitVec.ofNat 32 i → near ((repeat1 z j s).2.2.2.2.2.2.1 (ix2 r 0)) = 1#1 ∨
      held (repeat1 z j s) r = (turned (row z r))^[j] (held s r)
  | 0, _, _, _, _ => .inr rfl
  | j + 1, i, s, hij, hn => by
    unfold repeat1
    split
    · rw [Function.iterate_succ_apply, ← held_step]
      refine held_repeat z r j (i + 1) _ (by omega) ?_
      obtain ⟨n, lo, clo, hi, chi, rf, cur, side⟩ := s
      show Scalar.addi n 1#32 = _
      have hn' : n = BitVec.ofNat 32 i := hn
      rw [hn']
      exact succ26 i (by omega)
    · rename_i ht
      exact .inl (test1_false s (by omega) hn ht r)

/-! ### The start -/

/-- The row's first 768 codes, whose mean and spread give the first guess. -/
def first (f : Fin 6144 → EReal) (k : Fin 768) : EReal := f ⟨k.val, by have := k.isLt; omega⟩

def mean (f : Fin 6144 → EReal) : EReal := (∑ k, first f k) * wd 0x3AAAAAAB#32

def spread (f : Fin 6144 → EReal) : EReal :=
  FloatOps.sqrt (F := Ideal) (φ := .f32)
    (max ((∑ k, first f k * first f k) * wd 0x3AAAAAAB#32 - mean f * mean f) (wd 0x00000000#32))

def guess (f : Fin 6144 → EReal) : EReal := mean f + spread f * wd 0x4013837B#32

/-- The row's state before the first turn, from the guess's count. -/
def startAt (f : Fin 6144 → EReal) (c : EReal) : Held where
  lo := Scalar.select (FloatOps.cmpf (F := Ideal) (φ := .f32) .ogt c (wd 0x42800000#32)) (guess f) (mean f)
  clo := Scalar.select (FloatOps.cmpf (F := Ideal) (φ := .f32) .ogt c (wd 0x42800000#32)) c (wd 0x45400000#32)
  hi := Scalar.select (FloatOps.cmpf (F := Ideal) (φ := .f32) .olt c (wd 0x42800000#32)) (guess f)
    (mean f + spread f * wd 0x40A00000#32)
  chi := Scalar.select (FloatOps.cmpf (F := Ideal) (φ := .f32) .olt c (wd 0x42800000#32)) c (wd 0x00000000#32)
  cur := c
  side := wd 0x00000000#32

def started (f : Fin 6144 → EReal) : Held := startAt f ((cnt f (guess f) : ℕ) : EReal)

theorem mean_apply (x : Vec Ideal S256x768 .f32) (w : Vec Ideal S768x6144 .f32) (b : Vec Ideal S1x6144 .f32) (r : Fin 256) :
    k0_pay16 x w b (ix2 r 0) = mean (row (k0_pay14 x w b) r) := by
  unfold k0_pay16 k0_pay15 mean first row
  generalize k0_pay14 (F := Ideal) x w b = z
  pointwise

theorem spread_apply (x : Vec Ideal S256x768 .f32) (w : Vec Ideal S768x6144 .f32) (b : Vec Ideal S1x6144 .f32) (r : Fin 256) :
    k0_pay17 x w b (ix2 r 0) = spread (row (k0_pay14 x w b) r) := by
  unfold spread
  rw [← mean_apply]
  unfold k0_pay17 k0_pay15 first row
  generalize k0_pay16 (F := Ideal) x w b = mn
  generalize k0_pay14 (F := Ideal) x w b = z
  pointwise

theorem held_start (x : Vec Ideal S256x768 .f32) (w : Vec Ideal S768x6144 .f32) (b : Vec Ideal S1x6144 .f32) (r : Fin 256) :
    held (start1 x w b) r = started (row (k0_pay14 x w b) r) := by
  have hg : k0_pay18 x w b (ix2 r 0) = guess (row (k0_pay14 x w b) r) := by
    unfold guess; rw [← mean_apply, ← spread_apply]; rfl
  have hc := count_apply (k0_pay14 x w b) (k0_pay18 x w b) r
  change k0_pay20 x w b (ix2 r 0) = _ at hc
  unfold started
  rw [← hg, ← hc]
  unfold startAt
  rw [← hg, ← mean_apply, ← spread_apply]
  rfl

/-! ### What decides a row -/

/-- A row is decided: some number parts sixty-four of its codes from the rest, and either a finite float32 number does so
    or the search, taking all of its turns, ends within one of 64. -/
def Decided (f : Fin 6144 → EReal) : Prop :=
  (∃ T, cnt f T = 64) ∧ ((∃ K, K < kInf ∧ cnt f (val K) = 64) ∨ near ((turned f)^[26] (started f)).cur = 1#1)

theorem near_ends (z : FVec Ideal S256x6144 .f32) (s e : St1 Ideal) (r : Fin 256) (n : ℕ) (hn : n = 26) (h0 : s.1 = 0#32)
    (he : e = repeat1 z n s) (h : near ((turned (row z r))^[n] (held s r)).cur = 1#1) :
    near (e.2.2.2.2.2.2.1 (ix2 r 0)) = 1#1 := by
  subst he
  rcases held_repeat z r n 0 s (by omega) h0 with h' | h'
  · exact h'
  · rw [← h'] at h
    exact h

theorem start1_n (x : Vec Ideal S256x768 .f32) (w : Vec Ideal S768x6144 .f32) (b : Vec Ideal S1x6144 .f32) :
    (start1 x w b).1 = 0#32 := by
  unfold start1; rfl

/-- A row whose search ends near 64 is left near 64 by the kernel's loop. -/
theorem near_end (x : Vec Ideal S256x768 .f32) (w : Vec Ideal S768x6144 .f32) (b : Vec Ideal S1x6144 .f32) (r : Fin 256)
    (h : near ((turned (row (k0_pay14 x w b) r))^[26] (started (row (k0_pay14 x w b) r))).cur = 1#1) :
    near ((end1 x w b).2.2.2.2.2.2.1 (ix2 r 0)) = 1#1 :=
  near_ends (k0_pay14 x w b) (start1 x w b) (end1 x w b) r 26 rfl (start1_n x w b) (end1_eq x w b)
    (by rw [held_start]; exact h)

/-- On a decided row the kernel keeps the codes at or above the number that parts sixty-four of them from the rest. -/
theorem sparse_decided (x : Vec Ideal S256x768 .f32) (w : Vec Ideal S768x6144 .f32) (b : Vec Ideal S1x6144 .f32) (r : Fin 256)
    (c : Fin 6144) {T : EReal} (hT : cnt (row (k0_pay14 x w b) r) T = 64) (hd : Decided (row (k0_pay14 x w b) r)) :
    sparse x w b (ix2 r c)
      = open Classical in if T ≤ k0_pay14 x w b (ix2 r c) then k0_pay14 x w b (ix2 r c) else 0 :=
  sparse_apply x w b r c hT fun h => hd.2.resolve_right fun hn => h (near_end x w b r hn)

end Cert.Proof.Value
-- ==== Proof.Value.Ref.lean ====
/-
  The reference's sparse codes read at one entry: the 64 greatest of a row are those at or above any value that exactly
  64 entries of the row reach, and the scatter writes them where they stood, over zeros.
-/
module

public import proofs.«01_k».proof.Proof.Gen.ReferenceIdeal
public import proofs.«01_k».proof.Proof.Gen.ReferenceIdeal.Read
public import proofs.«01_k».proof.Proof.Value.Rank
public import Idealize.ShloMosaic.Lib.Pointwise
public import Idealize.ShloMosaic.Lib.SortFacts
public import Idealize.ShloMosaic.Lib.Routing.OpsSet
public import Idealize.ShloMosaic.Lib.Routing.OpsPair

@[expose] public section

set_option maxRecDepth 16384

noncomputable section

namespace Cert.Proof.Value

open Cert.ReferenceIdeal Cert.ReferenceIdeal.Gen Cert.ReferenceIdeal.Read
open Idealize.ShloMosaic

/-- In a descending arrangement the positions at or above a value that `k` entries reach are the first `k`. -/
theorem first_iff {n : ℕ} (f : Fin n → EReal) (π : Fin n → Fin n) (hinj : Function.Injective π)
    (hdesc : ∀ i j, i < j → f (π j) ≤ f (π i)) {T : EReal} {k : ℕ} (h : cnt f T = k) (i : Fin n) :
    T ≤ f (π i) ↔ i.val < k := by
  classical
  have hbij : Function.Bijective π := Finite.injective_iff_bijective.1 hinj
  let S : Finset (Fin n) := Finset.univ.filter fun i => T ≤ f (π i)
  have hS : S.card = k := by
    rw [← h]
    unfold cnt
    refine Finset.card_bij (fun i _ => π i) ?_ (fun _ _ _ _ e => hinj e) ?_
    · intro a ha
      rw [mem_top]
      exact (Finset.mem_filter.1 ha).2
    · intro c hc
      obtain ⟨a, rfl⟩ := hbij.2 c
      exact ⟨a, Finset.mem_filter.2 ⟨Finset.mem_univ _, (mem_top f).1 hc⟩, rfl⟩
  have hmono : ∀ i j, i ≤ j → f (π j) ≤ f (π i) := fun i j hij => by
    rcases hij.eq_or_lt with e | e
    · rw [e]
    · exact hdesc i j e
  constructor
  · intro hi
    have hsub : Finset.Iic i ⊆ S := fun j hj =>
      Finset.mem_filter.2 ⟨Finset.mem_univ _, hi.trans (hmono j i (Finset.mem_Iic.1 hj))⟩
    have := Finset.card_le_card hsub
    rw [Fin.card_Iic, hS] at this
    omega
  · intro hi
    by_contra hn
    have hsub : S ⊆ Finset.Iio i := fun j hj => by
      rw [Finset.mem_Iio]
      by_contra hji
      exact hn ((Finset.mem_filter.1 hj).2.trans (hmono i j (not_lt.1 hji)))
    have := Finset.card_le_card hsub
    rw [Fin.card_Iio, hS] at this
    omega

/-- The comparison the sort uses, at the extended reals. -/
theorem total_gt (x y : EReal) : (FloatOps.cmpfTotal (F := Ideal) (φ := .f32) .gt x y == 1#1) = decide (y < x) := by
  show (BitVec.ofBool (decide (y < x)) == 1#1) = _
  by_cases h : y < x <;> simp [h]

/-- The order in which a row's positions come out of the reference's sort. -/
def order (x : FVec Ideal S8192x6144 .f32) (r : Fin 8192) : Fin 6144 → Fin 6144 :=
  sortedFrom fun k k' => FloatOps.cmpfTotal (F := Ideal) (φ := .f32) .gt (x (ix2 r k)) (x (ix2 r k')) == 1#1

theorem order_inj (x : FVec Ideal S8192x6144 .f32) (r : Fin 8192) : Function.Injective (order x r) :=
  sortedFrom_injective _

theorem order_desc (x : FVec Ideal S8192x6144 .f32) (r : Fin 8192) (i j : Fin 6144) (h : i < j) :
    x (ix2 r (order x r j)) ≤ x (ix2 r (order x r i)) := by
  have := sortedFrom_noInversion
    (fun k k' => FloatOps.cmpfTotal (F := Ideal) (φ := .f32) .gt (x (ix2 r k)) (x (ix2 r k')) == 1#1)
    (fun k k' => FloatOps.cmpfTotal (F := Ideal) (φ := .f32) .gt (x (ix2 r k)) (x (ix2 r k')) == 1#1)
    (fun a b hab => by
      rw [total_gt] at hab ⊢
      exact decide_eq_false (not_lt.2 (le_of_lt (of_decide_eq_true hab))))
    (fun a b hab => hab)
    (fun a b c hab hbc => by
      rw [total_gt] at hab hbc ⊢
      exact decide_eq_false (not_lt.2 ((not_lt.1 (of_decide_eq_false hab)).trans (not_lt.1 (of_decide_eq_false hbc)))))
    i j h
  rw [total_gt] at this
  exact not_lt.1 (of_decide_eq_false this)

theorem along_ix2 (r : Fin 8192) (c k : Fin 6144) :
    (ix2 r c : S8192x6144.Idx).along (1 : Fin 2) k = ix2 r k := by
  funext a
  match a with
  | ⟨0, _⟩ => rfl
  | ⟨1, _⟩ => rfl

/-- The sort carries both operands along the row's order. -/
theorem sort_at {β : Type} (x : FVec Ideal S8192x6144 .f32) (y : S8192x6144.Idx → β) (r : Fin 8192) (i : Fin 6144) :
    (Host.sort2 S8192x6144 1 (fun l r => FloatOps.cmpfTotal (F := Ideal) (φ := .f32) .gt l.1 r.1) x y).1 (ix2 r i)
        = x (ix2 r (order x r i))
      ∧ (Host.sort2 S8192x6144 1 (fun l r => FloatOps.cmpfTotal (F := Ideal) (φ := .f32) .gt l.1 r.1) x y).2 (ix2 r i)
        = y (ix2 r (order x r i)) := by
  have hd : 1 < S8192x6144.rank := by decide
  have e : sortedFrom (fun k k' => FloatOps.cmpfTotal (F := Ideal) (φ := .f32) .gt
      (x ((ix2 r i : S8192x6144.Idx).along (1 : Fin 2) k)) (x ((ix2 r i : S8192x6144.Idx).along (1 : Fin 2) k')) == 1#1)
      = order x r := by
    unfold order
    refine congrArg sortedFrom (funext fun k => funext fun k' => ?_)
    exact congr_arg₂ (fun u v => FloatOps.cmpfTotal (F := Ideal) (φ := .f32) .gt u v == 1#1) (congrArg x (along_ix2 r i k))
      (congrArg x (along_ix2 r i k'))
  unfold Host.sort2
  rw [dif_pos hd]
  constructor
  · show x ((ix2 r i : S8192x6144.Idx).along (1 : Fin 2) (sortedFrom (fun k k' =>
      FloatOps.cmpfTotal (F := Ideal) (φ := .f32) .gt (x ((ix2 r i : S8192x6144.Idx).along (1 : Fin 2) k))
        (x ((ix2 r i : S8192x6144.Idx).along (1 : Fin 2) k')) == 1#1) i)) = _
    rw [e, along_ix2]
  · show y ((ix2 r i : S8192x6144.Idx).along (1 : Fin 2) (sortedFrom (fun k k' =>
      FloatOps.cmpfTotal (F := Ideal) (φ := .f32) .gt (x ((ix2 r i : S8192x6144.Idx).along (1 : Fin 2) k))
        (x ((ix2 r i : S8192x6144.Idx).along (1 : Fin 2) k')) == 1#1) i)) = _
    rw [e, along_ix2]

/-- One of the first 64 places, among all. -/
def place (b : Fin 64) : Fin 6144 := ⟨b.val, by omega⟩

theorem slice_at {α : Type} (v : S8192x6144.Idx → α) (r : Fin 8192) (b : Fin 64) :
    extractStridedSlice S8192x64 (fun _ => 0) v sliceFits_S8192x6144_S8192x64 (ix2 r b) = v (ix2 r (place b)) := by
  unfold extractStridedSlice
  congr 1
  funext a
  match a with
  | ⟨0, _⟩ => exact Fin.ext (Nat.zero_add _)
  | ⟨1, _⟩ => exact Fin.ext (Nat.zero_add _)

/-- The positions along a row, as words. -/
def cols : IVec S8192x6144 32 := fun i => if hd : 1 < S8192x6144.rank then iotaInDim S8192x6144 32 ⟨1, hd⟩ i else 0#32

theorem cols_apply (r : Fin 8192) (c : Fin 6144) : cols (ix2 r c) = BitVec.ofNat 32 c.val := by
  have hd : 1 < S8192x6144.rank := by decide
  unfold cols
  rw [dif_pos hd]
  rfl

/-- The values the reference takes, -/
theorem topK_values (x : FVec Ideal S8192x6144 .f32) (r : Fin 8192) (b : Fin 64) :
    (Host.topK S8192x64 1 (FloatOps.cmpfTotal (F := Ideal) (φ := .f32) .gt) x sliceFits_S8192x6144_S8192x64).1 (ix2 r b)
      = x (ix2 r (order x r (place b))) := by
  unfold Host.topK
  exact (slice_at (Host.sort2 S8192x6144 1 (fun l r => FloatOps.cmpfTotal (F := Ideal) (φ := .f32) .gt l.1 r.1) x cols).1 r b).trans
    (sort_at x cols r (place b)).1

/-- and where they stood. -/
theorem topK_indices (x : FVec Ideal S8192x6144 .f32) (r : Fin 8192) (b : Fin 64) :
    (Host.topK S8192x64 1 (FloatOps.cmpfTotal (F := Ideal) (φ := .f32) .gt) x sliceFits_S8192x6144_S8192x64).2 (ix2 r b)
      = BitVec.ofNat 32 (order x r (place b)).val := by
  unfold Host.topK
  exact (slice_at (Host.sort2 S8192x6144 1 (fun l r => FloatOps.cmpfTotal (F := Ideal) (φ := .f32) .gt l.1 r.1) x cols).2 r b).trans
    ((sort_at x cols r (place b)).2.trans (cols_apply r _))

/-- A small number as a word, wrapped as a negative index would be, is itself. -/
theorem wrap_small {n : ℕ} (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

theorem toInt_small {n : ℕ} (h : n < 2 ^ 31) : (BitVec.ofNat 32 n).toInt = (n : ℤ) := by
  rw [BitVec.toInt_eq_toNat_of_lt] <;> rw [BitVec.toNat_ofNat] <;> omega

/-- The rows' half of the index pairs: the row's number. -/
theorem v12_apply (r : Fin 8192) : val_main_v12 (F := Ideal) (ix2 r 0) = BitVec.ofNat 32 r.val := by
  have e6 : val_main_v6 (F := Ideal) (ix2 r 0) = BitVec.ofNat 32 r.val := by rw [val_main_v6_apply]; rfl
  have e8 : val_main_v8 (F := Ideal) (ix2 r 0) = 0#32 := by rw [val_main_v8_apply]; rfl
  rw [val_main_v12_apply, val_main_v9_apply, e6, e8]
  exact wrap_small (by omega) _

variable (x0 : (⟨S8192x768, .f32⟩ : BufTy).Contents (Elt Ideal)) (x1 : (⟨S6144x768, .f32⟩ : BufTy).Contents (Elt Ideal))
  (x2 : (⟨S6144, .f32⟩ : BufTy).Contents (Elt Ideal))

/-- The encodings, and the order of a row of them. -/
abbrev enc : FVec Ideal S8192x6144 .f32 := val_main_v4 (F := Ideal) x0 x1 x2

/-- The columns' half: where the value stood. -/
theorem v17_apply (r : Fin 8192) (b : Fin 64) :
    val_main_v17 (F := Ideal) x0 x1 x2 (ix2 r b) = BitVec.ofNat 32 (order (enc x0 x1 x2) r (place b)).val := by
  have e : val_main_indices (F := Ideal) x0 x1 x2 (ix2 r b) = BitVec.ofNat 32 (order (enc x0 x1 x2) r (place b)).val :=
    topK_indices _ r b
  have e13 : val_main_v13 (F := Ideal) (ix2 r b) = 0#32 := by rw [val_main_v13_apply]; rfl
  rw [val_main_v17_apply, val_main_v14_apply, e, e13]
  exact wrap_small (by omega) _

theorem v21_row (r : Fin 8192) (b : Fin 64) :
    val_main_v21 (F := Ideal) x0 x1 x2 (ix3 r b 0) = BitVec.ofNat 32 r.val := by
  have e : val_main_v19 (F := Ideal) (ix3 r b 0) = BitVec.ofNat 32 r.val := by
    rw [val_main_v19_apply, val_main_v18_apply, ← v12_apply r]
    congr 1
    funext a
    match a with
    | ⟨0, _⟩ => rfl
    | ⟨1, _⟩ => rfl
  rw [← e]
  unfold val_main_v21
  generalize val_main_v19 (F := Ideal) = p
  generalize val_main_v20 (F := Ideal) x0 x1 x2 = q
  pointwise

theorem v21_col (r : Fin 8192) (b : Fin 64) :
    val_main_v21 (F := Ideal) x0 x1 x2 (ix3 r b 1) = BitVec.ofNat 32 (order (enc x0 x1 x2) r (place b)).val := by
  have e : val_main_v20 (F := Ideal) x0 x1 x2 (ix3 r b 0) = BitVec.ofNat 32 (order (enc x0 x1 x2) r (place b)).val := by
    rw [val_main_v20_apply, ← v17_apply]
    congr 1
    funext a
    match a with
    | ⟨0, _⟩ => rfl
    | ⟨1, _⟩ => rfl
  rw [← e]
  unfold val_main_v21
  generalize val_main_v19 (F := Ideal) = p
  generalize val_main_v20 (F := Ideal) x0 x1 x2 = q
  pointwise

/-- Where an update lands. -/
theorem lands (a : Fin 8192) (b : Fin 64) (r : Fin 8192) (c : Fin 6144) :
    scatter_S8192x6144_S8192x64x2_S8192x64_n_01_01_2.resultIdx? (ix2 a b) (val_main_v21 (F := Ideal) x0 x1 x2)
        = some (ix2 r c) ↔ a = r ∧ order (enc x0 x1 x2) a (place b) = c := by
  refine (Routing.scatter_lands2 _ rfl rfl rfl _ a b r c).trans ?_
  have h0 : val_main_v21 (F := Ideal) x0 x1 x2 (ValueIdx.ix3 a b 0) = BitVec.ofNat 32 a.val := by
    refine Eq.trans (congrArg _ ?_) (v21_row x0 x1 x2 a b)
    funext d
    match d with
    | ⟨0, _⟩ => rfl
    | ⟨1, _⟩ => rfl
    | ⟨2, _⟩ => rfl
  have h1 : val_main_v21 (F := Ideal) x0 x1 x2 (ValueIdx.ix3 a b 1)
      = BitVec.ofNat 32 (order (enc x0 x1 x2) a (place b)).val := by
    refine Eq.trans (congrArg _ ?_) (v21_col x0 x1 x2 a b)
    funext d
    match d with
    | ⟨0, _⟩ => rfl
    | ⟨1, _⟩ => rfl
    | ⟨2, _⟩ => rfl
  rw [h0, h1, toInt_small (by omega), toInt_small (by omega)]
  constructor
  · rintro ⟨h1, h2⟩
    exact ⟨Fin.ext (by exact_mod_cast h1), Fin.ext (by exact_mod_cast h2)⟩
  · rintro ⟨rfl, rfl⟩
    exact ⟨rfl, rfl⟩

/-- The reference's sparse code at an entry: the encoding where it is at or above `T`, else zero. -/
theorem ref_sparse (r : Fin 8192) (c : Fin 6144) {T : EReal}
    (hT : cnt (fun k => enc x0 x1 x2 (ix2 r k)) T = 64) :
    val_main_v22 (F := Ideal) x0 x1 x2 (ix2 r c)
      = open Classical in if T ≤ enc x0 x1 x2 (ix2 r c) then enc x0 x1 x2 (ix2 r c) else 0 := by
  classical
  have hf := first_iff (fun k => enc x0 x1 x2 (ix2 r k)) (order (enc x0 x1 x2) r) (order_inj _ r)
    (fun i j h => order_desc _ r i j h) hT
  unfold val_main_v22
  by_cases h : T ≤ enc x0 x1 x2 (ix2 r c)
  · rw [if_pos h]
    obtain ⟨i, hi⟩ := (Finite.injective_iff_surjective.1 (order_inj (enc x0 x1 x2) r)) c
    have hlt : i.val < 64 := (hf i).1 (by rw [hi]; exact h)
    refine Routing.scatter_set_hit _ _ _ _ (ix2 r c) _ ?_ (ix2 r ⟨i.val, hlt⟩) ((lands x0 x1 x2 _ _ _ _).2 ⟨rfl, hi⟩)
    intro k hk
    obtain ⟨a, b, rfl⟩ : ∃ a b, k = ix2 a b := ⟨k 0, k 1, eq_ix2 k⟩
    obtain ⟨rfl, hc⟩ := (lands x0 x1 x2 _ _ _ _).1 hk
    refine (topK_values (enc x0 x1 x2) a b).trans ?_
    rw [hc]
  · rw [if_neg h]
    refine (Routing.scatter_set_miss _ _ _ _ (ix2 r c) ?_).trans ?_
    · intro k hk
      obtain ⟨a, b, rfl⟩ : ∃ a b, k = ix2 a b := ⟨k 0, k 1, eq_ix2 k⟩
      obtain ⟨rfl, hc⟩ := (lands x0 x1 x2 _ _ _ _).1 hk
      refine h ?_
      rw [← hc]
      exact (hf (place b)).2 b.isLt
    · rw [val_main_v7_apply]
      show Ideal.ofBits .f32 0x00000000#32 = 0
      simp [Ideal.ofBits, Ideal.ieee]

end Cert.Proof.Value
-- ==== Proof.Value.Turns.lean ====
/-
  The search the precondition runs, read row by row: its turn and its start are those the kernel's rows follow, so after its
  26 turns it holds what the kernel's loop would.
-/
module

public import proofs.«01_k».proof.Pre_tied_and_decided
public import proofs.«01_k».proof.Proof.Gen.Pre_tied_and_decided
public import proofs.«01_k».proof.Proof.Value.Search
public import Idealize.ShloMosaic.Lib.Pointwise

@[expose] public section

set_option maxRecDepth 16384

noncomputable section

namespace Cert.Proof.Value

open Cert.Pre_tied_and_decided Cert.Pre_tied_and_decided.Gen
open Idealize.ShloMosaic

/-- A column of the host's. -/
abbrev HCol := FVec Ideal S8192x1 .f32

/-- The six columns of the host's search at a row. -/
def hheld (s : HCol × HCol × HCol × HCol × HCol × HCol) (r : Fin 8192) : Held where
  lo := s.1 (ix2 r 0)
  clo := s.2.1 (ix2 r 0)
  hi := s.2.2.1 (ix2 r 0)
  chi := s.2.2.2.1 (ix2 r 0)
  cur := s.2.2.2.2.1 (ix2 r 0)
  side := s.2.2.2.2.2 (ix2 r 0)

/-- A row of the host's codes. -/
def hrow (z : FVec Ideal S8192x6144 .f32) (r : Fin 8192) : Fin 6144 → EReal := fun k => z (ix2 r k)

/-- The count as the host takes it. -/
def hcount (z : FVec Ideal S8192x6144 .f32) (t : HCol) : HCol :=
  broadcastInDim S8192x1 ![0] Facts.bcast_S8192_S8192x1_0
    (Host.reduceAdd (uitofp .f32 (cmpf .oge z (broadcastInDim S8192x6144 ![0, 1] Facts.bcast_S8192x1_S8192x6144_0_1 t)))
      (constant S_ .f32 0x00000000#32) Facts.reducesTo_S8192x6144_S8192_d1 Facts.h_S_)

theorem hcount_apply (z : FVec Ideal S8192x6144 .f32) (t : HCol) (r : Fin 8192) :
    hcount z t (ix2 r 0) = ((cnt (hrow z r) (t (ix2 r 0)) : ℕ) : EReal) := by
  classical
  unfold hcount cnt top hrow
  pointwise
  rw [Finset.card_filter, Nat.cast_sum]
  refine Finset.sum_congr rfl fun k _ => ?_
  by_cases h : t (ix2 r 0) ≤ z (ix2 r k)
  · rw [if_pos h, decide_eq_true h]
    show ((((1#1 : BitVec 1).toNat : ℕ) : ℝ) : EReal) = ((1 : ℕ) : EReal)
    simp
  · rw [if_neg h, decide_eq_false h]
    show ((((0#1 : BitVec 1).toNat : ℕ) : ℝ) : EReal) = ((0 : ℕ) : EReal)
    simp

theorem noti_eq : ∀ b : BitVec 1, ~~~b = IntOp.xori b 1#1 := by decide

/-- One turn of the host's search at a row, from the threshold and its count. -/
theorem part1_row (lo clo hi chi cur side t c : HCol) (r : Fin 8192) :
    hheld (fn_turn_part1 (F := Ideal) lo clo hi chi cur side t c
        (broadcastInDim S8192x1 ![] Facts.bcast_S_S8192x1 (constant S_ .f32 0x42800000#32))) r
      = (hheld (lo, clo, hi, chi, cur, side) r).moved (t (ix2 r 0)) (c (ix2 r 0)) := by
  have hl : (hheld (lo, clo, hi, chi, cur, side) r).live = ~~~(FloatOps.cmpf (F := Ideal) (φ := .f32) .ole
      (max (cur (ix2 r 0) - wd 0x42800000#32) (-(cur (ix2 r 0) - wd 0x42800000#32))) (wd 0x3F800000#32)) := by
    unfold Held.live near wd; rw [w64, w1, noti_eq]; rfl
  unfold Held.moved Held.up Held.down
  rw [hl]
  rfl

/-- One turn of the host's search at a row. -/
theorem turn_row (z : FVec Ideal S8192x6144 .f32) (lo clo hi chi cur side : HCol) (r : Fin 8192) :
    hheld (fn_turn (F := Ideal) z lo clo hi chi cur side) r = turned (hrow z r) (hheld (lo, clo, hi, chi, cur, side) r) := by
  unfold turned
  unfold fn_turn
  refine (part1_row _ _ _ _ _ _ _ _ r).trans ?_
  refine (congrArg _ (hcount_apply z _ r)).trans ?_
  rfl

theorem two_row (z : FVec Ideal S8192x6144 .f32) (lo clo hi chi cur side : HCol) (r : Fin 8192) :
    hheld (fn_two_turns (F := Ideal) z lo clo hi chi cur side) r
      = (turned (hrow z r))^[2] (hheld (lo, clo, hi, chi, cur, side) r) := by
  show _ = turned (hrow z r) (turned (hrow z r) _)
  rw [← turn_row]
  exact turn_row z _ _ _ _ _ _ r

theorem eight_row (z : FVec Ideal S8192x6144 .f32) (lo clo hi chi cur side : HCol) (r : Fin 8192) :
    hheld (fn_eight_turns (F := Ideal) z lo clo hi chi cur side) r
      = (turned (hrow z r))^[8] (hheld (lo, clo, hi, chi, cur, side) r) := by
  rw [show (8 : ℕ) = 2 + (2 + (2 + 2)) from rfl]
  simp only [Function.iterate_add_apply (turned (hrow z r))]
  rw [← two_row]
  refine (two_row z _ _ _ _ _ _ r).trans (congrArg _ ?_)
  refine (two_row z _ _ _ _ _ _ r).trans (congrArg _ ?_)
  exact two_row z _ _ _ _ _ _ r

/-- The whole search at a row. -/
theorem part2_row (z : FVec Ideal S8192x6144 .f32) (c lo clo hi : HCol) (r : Fin 8192) :
    fn_search_part2 (F := Ideal) z c lo clo hi (constant S_ .f32 0x42800000#32) (ix2 r 0)
      = ((turned (hrow z r))^[26] ⟨lo (ix2 r 0), clo (ix2 r 0), hi (ix2 r 0),
          Scalar.select (FloatOps.cmpf (F := Ideal) (φ := .f32) .olt (c (ix2 r 0)) (wd 0x42800000#32)) (c (ix2 r 0))
            (wd 0x00000000#32), c (ix2 r 0), wd 0x00000000#32⟩).cur := by
  rw [show (26 : ℕ) = 2 + (8 + (8 + 8)) from rfl]
  simp only [Function.iterate_add_apply (turned (hrow z r))]
  unfold fn_search_part2 fn_search_part3
  refine (congrArg Held.cur (two_row z _ _ _ _ _ _ r)).trans (congrArg (fun s => Held.cur ((turned (hrow z r))^[2] s)) ?_)
  refine (eight_row z _ _ _ _ _ _ r).trans (congrArg _ ?_)
  refine (eight_row z _ _ _ _ _ _ r).trans (congrArg _ ?_)
  exact eight_row z _ _ _ _ _ _ r

/-- A sum over a row's first 768 entries, scaled, as the host takes it. -/
theorem sum_row (y : FVec Ideal S8192x768 .f32) (r : Fin 8192) :
    mulf (broadcastInDim S8192x1 ![0] Facts.bcast_S8192_S8192x1_0 (Host.reduceAdd y (constant S_ .f32 0x00000000#32)
        Facts.reducesTo_S8192x768_S8192_d1 Facts.h_S_))
      (broadcastInDim S8192x1 ![] Facts.bcast_S_S8192x1 (constant S_ .f32 0x3AAAAAAB#32)) (ix2 r 0)
      = (∑ k : Fin 768, y (ix2 r k)) * wd 0x3AAAAAAB#32 := by
  pointwise

/-- The host's slice of the codes. -/
theorem slice_row (z : FVec Ideal S8192x6144 .f32) (r : Fin 8192) (k : Fin 768) :
    extractStridedSlice S8192x768 ![0, 0] z Facts.slices_S8192x6144_S8192x768_0_0 (ix2 r k) = first (hrow z r) k := by
  unfold first hrow
  pointwise

/-- The host's search from the mean, the spread and the guess. -/
theorem part1_search (z : FVec Ideal S8192x6144 .f32) (mn sp gs : HCol) (r : Fin 8192)
    (hm : mn (ix2 r 0) = mean (hrow z r)) (hs : sp (ix2 r 0) = spread (hrow z r)) (hg : gs (ix2 r 0) = guess (hrow z r)) :
    fn_search_part1 (F := Ideal) z mn sp gs (ix2 r 0) = ((turned (hrow z r))^[26] (started (hrow z r))).cur := by
  unfold fn_search_part1
  refine (part2_row z _ _ _ _ r).trans (congrArg (fun s => Held.cur ((turned (hrow z r))^[26] s)) ?_)
  have hc := hcount_apply z gs r
  unfold started
  rw [← hg, ← hc]
  unfold startAt
  rw [← hg, ← hm, ← hs]
  rfl

theorem search_row (z : FVec Ideal S8192x6144 .f32) (r : Fin 8192) :
    fn_search (F := Ideal) z (ix2 r 0) = ((turned (hrow z r))^[26] (started (hrow z r))).cur := by
  unfold fn_search
  have hm : mulf (broadcastInDim S8192x1 ![0] Facts.bcast_S8192_S8192x1_0 (Host.reduceAdd
        (extractStridedSlice S8192x768 ![0, 0] z Facts.slices_S8192x6144_S8192x768_0_0) (constant S_ .f32 0x00000000#32)
        Facts.reducesTo_S8192x768_S8192_d1 Facts.h_S_))
      (broadcastInDim S8192x1 ![] Facts.bcast_S_S8192x1 (constant S_ .f32 0x3AAAAAAB#32)) (ix2 r 0) = mean (hrow z r) := by
    rw [sum_row]
    unfold mean
    exact congrArg (· * _) (Finset.sum_congr rfl fun k _ => slice_row z r k)
  have hq := (sum_row (mulf (extractStridedSlice S8192x768 ![0, 0] z Facts.slices_S8192x6144_S8192x768_0_0)
    (extractStridedSlice S8192x768 ![0, 0] z Facts.slices_S8192x6144_S8192x768_0_0)) r).trans
    (congrArg (· * wd 0x3AAAAAAB#32) (Finset.sum_congr rfl fun k _ => congrArg₂ (· * ·) (slice_row z r k) (slice_row z r k)))
  refine part1_search z _ _ _ r hm ?_ ?_
  · unfold spread
    rw [← hm, ← hq]
    rfl
  · unfold guess spread
    rw [← hm, ← hq]
    rfl

end Cert.Proof.Value
-- ==== Proof.Value.Pre.lean ====
/-
  What the precondition gives: the decoder's weight is the encoder's transposed, and every row of encodings is decided.
-/
module

public import proofs.«01_k».proof.Pre_tied_and_decided
public import proofs.«01_k».proof.Proof.Gen.Pre_tied_and_decided
public import proofs.«01_k».proof.Proof.Value.Keys
public import proofs.«01_k».proof.Proof.Value.Ref
public import proofs.«01_k».proof.Proof.Value.Turns
public import Idealize.ShloMosaic.Lib.Pointwise
public import Idealize.ShloMosaic.Lib.IndicatorCount

@[expose] public section

set_option maxRecDepth 16384

noncomputable section

namespace Cert.Proof.Value

open Cert.Pre_tied_and_decided Cert.Pre_tied_and_decided.Gen
open Idealize.ShloMosaic

/-- The count the precondition takes, as a word. -/
theorem count_word (z : FVec Ideal S8192x6144 .f32) (t : FVec Ideal S8192x1 .f32) (r : Fin 8192) :
    broadcastInDim S8192x1 ![0] Facts.bcast_S8192_S8192x1_0 (Host.reduce IntOp.addi (extui 32 (cmpf .oge z
        (broadcastInDim S8192x6144 ![0, 1] Facts.bcast_S8192x1_S8192x6144_0_1 t)) Facts.natLt_1_32) (constantI S_ 32 0#32)
        Facts.reducesTo_S8192x6144_S8192_d1 Facts.h_S_) (ix2 r 0)
      = BitVec.ofNat 32 (cnt (fun k => z (ix2 r k)) (t (ix2 r 0))) := by
  classical
  pointwise
  rw [Idealize.ShloMosaic.IndicatorCount.fold_addi_setWidth_eq_card]
  unfold cnt top
  congr 2
  refine Finset.filter_congr fun k _ => ?_
  by_cases h : t (ix2 r 0) ≤ z (ix2 r k) <;> simp [h]

theorem cnt_le {n : ℕ} (f : Fin n → EReal) (t : EReal) : cnt f t ≤ n := by
  have := Finset.card_le_univ (top f t)
  rw [Fintype.card_fin] at this
  exact this

/-- A count compared with 64 as words. -/
theorem word_64 {f : Fin 6144 → EReal} {t : EReal} (h : IntOp.cmpi .eq (BitVec.ofNat 32 (cnt f t)) 64#32 = 1#1) :
    cnt f t = 64 := by
  have hl := cnt_le f t
  by_contra hn
  have hne : BitVec.ofNat 32 (cnt f t) ≠ 64#32 := fun q => hn (by
    have := congrArg BitVec.toNat q
    rw [BitVec.toNat_ofNat, BitVec.toNat_ofNat] at this
    omega)
  have : IntOp.cmpi .eq (BitVec.ofNat 32 (cnt f t)) 64#32 = 0#1 := by
    show BitVec.ofBool (_ == _) = _
    rw [beq_eq_false_iff_ne.2 hne]
    rfl
  rw [this] at h
  exact absurd h (by decide)

/-- The precondition's last part: the two flags, from the encodings, each row's 64th largest, that number rounded down to a
    float32 number, and the latter's finiteness bit. -/
theorem part3_facts (u1 : FVec Ideal S6144x768 .f32) (u3 : FVec Ideal S768x6144 .f32) (z : FVec Ideal S8192x6144 .f32)
    (v t : FVec Ideal S8192x1 .f32) (fin : IVec S8192x1 1)
    (h1 : (fn_part3 (F := Ideal) u1 u3 z v t fin).1 = fun _ => 1#1)
    (h2 : (fn_part3 (F := Ideal) u1 u3 z v t fin).2 = fun _ => 1#1) :
    (∀ k c, u3 (ix2 k c) = u1 (ix2 c k))
      ∧ ∀ r, cnt (hrow z r) (v (ix2 r 0)) = 64 ∧ ((fin (ix2 r 0) = 1#1 ∧ cnt (hrow z r) (t (ix2 r 0)) = 64)
          ∨ near ((turned (hrow z r))^[26] (started (hrow z r))).cur = 1#1) := by
  constructor
  · intro k c
    have h := congrFun h1 (ix2 k c)
    have e : (fn_part3 (F := Ideal) u1 u3 z v t fin).1 (ix2 k c)
        = BitVec.ofBool (decide (u3 (ix2 k c) = transpose S768x6144 [1, 0] u1 Facts.transposes_S6144x768_S768x6144_1_0 (ix2 k c))) := rfl
    have e' : transpose S768x6144 [1, 0] u1 Facts.transposes_S6144x768_S768x6144_1_0 (ix2 k c) = u1 (ix2 c k) := by pointwise
    rw [e, e'] at h
    by_contra hn
    rw [decide_eq_false hn] at h
    exact absurd h (by decide)
  · intro r
    have h := congrFun h2 (ix2 r 0)
    have e : (fn_part3 (F := Ideal) u1 u3 z v t fin).2 (ix2 r 0)
        = IntOp.andi (IntOp.cmpi .eq (BitVec.ofNat 32 (cnt (hrow z r) (v (ix2 r 0)))) 64#32)
            (IntOp.ori (IntOp.andi (fin (ix2 r 0)) (IntOp.cmpi .eq (BitVec.ofNat 32 (cnt (hrow z r) (t (ix2 r 0)))) 64#32))
              (near (fn_search (F := Ideal) z (ix2 r 0)))) := by
      unfold hrow near
      rw [← count_word, ← count_word, ← w64, ← w1]
      rfl
    rw [e, search_row] at h
    have ha : ∀ a b : BitVec 1, IntOp.andi a b = 1#1 → a = 1#1 ∧ b = 1#1 := by decide
    have ho : ∀ a b : BitVec 1, IntOp.ori a b = 1#1 → a = 1#1 ∨ b = 1#1 := by decide
    obtain ⟨hv, hd⟩ := ha _ _ h
    exact ⟨word_64 hv, (ho _ _ hd).imp (fun q => ⟨(ha _ _ q).1, word_64 (ha _ _ q).2⟩) id⟩

/-- The precondition is its last part at some numbers and words. -/
theorem fn_eq (x0 : FVec Ideal S8192x768 .f32) (x1 : FVec Ideal S6144x768 .f32) (x2 : FVec Ideal S6144 .f32)
    (x3 : FVec Ideal S768x6144 .f32) (x4 : FVec Ideal S768 .f32) : ∃ (v : FVec Ideal S8192x1 .f32) (w : IVec S8192x1 32),
    fn (F := Ideal) x0 x1 x2 x3 x4 = fn_part3 (F := Ideal) x1 x3 (enc x0 x1 x2) v (bitcastToFloat .f32 w)
      (cmpi .slt (andi w (broadcastInDim S8192x1 ![] Facts.bcast_S_S8192x1 (constantI S_ 32 2147483647#32)))
        (broadcastInDim S8192x1 ![] Facts.bcast_S_S8192x1 (constantI S_ 32 2139095040#32))) := by
  unfold fn fn_part1 fn_part2
  exact ⟨_, _, rfl⟩

/-- What the precondition gives of the arguments. -/
theorem pre_facts (x0 : FVec Ideal S8192x768 .f32) (x1 : FVec Ideal S6144x768 .f32) (x2 : FVec Ideal S6144 .f32)
    (x3 : FVec Ideal S768x6144 .f32) (x4 : FVec Ideal S768 .f32)
    (h : (fn (F := Ideal) x0 x1 x2 x3 x4).1 = (fun _ => 1#1) ∧ (fn (F := Ideal) x0 x1 x2 x3 x4).2 = (fun _ => 1#1)) :
    (∀ k c, x3 (ix2 k c) = x1 (ix2 c k)) ∧ ∀ r, Decided fun k => enc x0 x1 x2 (ix2 r k) := by
  obtain ⟨v, w, e⟩ := fn_eq x0 x1 x2 x3 x4
  rw [e] at h
  obtain ⟨ht, hr⟩ := part3_facts _ _ _ _ _ _ h.1 h.2
  refine ⟨ht, fun r => ?_⟩
  obtain ⟨hv, hd⟩ := hr r
  refine ⟨⟨_, hv⟩, hd.imp (fun ⟨hf, hc⟩ => ⟨num (w (ix2 r 0)), num_lt_of_finite ?_, ?_⟩) id⟩
  · have hf' : BitVec.ofBool (BitVec.slt (w (ix2 r 0) &&& 0x7FFFFFFF#32) 0x7F800000#32) = 1#1 := hf
    have : BitVec.slt (w (ix2 r 0) &&& 0x7FFFFFFF#32) 0x7F800000#32 = true := by
      by_contra hn
      rw [Bool.eq_false_iff.2 hn] at hf'
      exact absurd hf' (by decide)
    exact BitVec.slt_iff_toInt_lt.1 this
  · unfold val
    rw [word_num]
    exact hc

end Cert.Proof.Value
-- ==== Proof.Value.Blocks.lean ====
/-
  From the blocks to the arrays: what each grid point's blocks hold of the arguments, and the two result arrays as the
  reference's, entry by entry.
-/
module

public import proofs.«01_k».proof.Proof.Value.Search
public import proofs.«01_k».proof.Proof.Value.Pre
public import Idealize.ShloMosaic.Lib.Pipeline.ValueKit

@[expose] public section

set_option maxRecDepth 16384

noncomputable section

namespace Cert.Proof.Value

open Cert.KernelIdeal Cert.KernelIdeal.Gen Cert.Proof.PI
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- The kernel's arguments. -/
abbrev a0 : FVec Ideal S8192x768 .f32 := m ((c : Thread nD τ).loc main_arg0)
abbrev a1 : FVec Ideal S6144x768 .f32 := m ((c : Thread nD τ).loc main_arg1)
abbrev a2 : FVec Ideal S6144 .f32 := m ((c : Thread nD τ).loc main_arg2)
abbrev a3 : FVec Ideal S768x6144 .f32 := m ((c : Thread nD τ).loc main_arg3)
abbrev a4 : FVec Ideal S768 .f32 := m ((c : Thread nD τ).loc main_arg4)

theorem V_v0 : V m c main_v0 = shapeCast S1x6144 (a2 m c) shapeCasts_S6144_S1x6144 := by
  rfl
theorem V_v1 : V m c main_v1 = truncf (F := Ideal) .bf16 (a1 m c) bitsLt_bf16_f32 := by
  rfl
theorem V_v2 : V m c main_v2 = shapeCast S1x768 (a4 m c) shapeCasts_S768_S1x768 := by
  rfl

/-- The encoding of a block's row. -/
theorem pay14_apply (x : Vec Ideal S256x768 .f32) (w : Vec Ideal S768x6144 .f32) (b : Vec Ideal S1x6144 .f32) (r : Fin 256)
    (k : Fin 6144) : k0_pay14 x w b (ix2 r k) = (∑ d : Fin 768, x (ix2 r d) * w (ix2 d k)) + b (ix2 0 k) := by
  unfold k0_pay14
  pointwise

/-- One decoded entry: the row of codes against the column of the decoder's weights, and the bias. -/
theorem pay33_apply (v6 : FVec Ideal S256x6144 .f32) (v56 : FVec Ideal S256x1 .f32) (v61 : IVec S256x1 1)
    (v76 : IVec S256x6144 1) (v78 : FVec Ideal S256x6144 .f32) (u : Vec Ideal S6144x768 .bf16) (e : Vec Ideal S1x768 .f32)
    (r : Fin 256) (d : Fin 768) : k0_pay33 v6 v56 v61 v76 v78 u e (ix2 r d) =
      (∑ k : Fin 6144, k0_pay32 v6 v56 v61 v76 v78 (ix2 r k) * u (ix2 k d)) + e (ix2 0 d) := by
  unfold k0_pay33
  generalize k0_pay32 (F := Ideal) v6 v56 v61 v76 v78 = z
  pointwise

/-- The same of the block of reconstructions. -/
theorem decoded_apply (x : Vec Ideal S256x768 .f32) (w : Vec Ideal S768x6144 .f32) (b : Vec Ideal S1x6144 .f32)
    (u : Vec Ideal S6144x768 .bf16) (e : Vec Ideal S1x768 .f32) (r : Fin 256) (d : Fin 768) :
    decoded x w b u e (ix2 r d) = (∑ k : Fin 6144, sparse x w b (ix2 r k) * u (ix2 k d)) + e (ix2 0 d) := by
  unfold decoded sparse
  exact pay33_apply _ _ _ _ _ _ _ _ _

/-! ### The reference's two products -/

/-- The reference's encoding of a row. -/
theorem enc_apply (x0 : FVec Ideal S8192x768 .f32) (x1 : FVec Ideal S6144x768 .f32) (x2 : FVec Ideal S6144 .f32)
    (r : Fin 8192) (k : Fin 6144) :
    enc x0 x1 x2 (ix2 r k) = (∑ d : Fin 768, x0 (ix2 r d) * x1 (ix2 k d)) + x2 (ix1 k) := by
  rw [enc, Cert.ReferenceIdeal.Read.val_main_v4_apply, Cert.ReferenceIdeal.Read.val_main_v1_apply]
  simp only [Cert.ReferenceIdeal.Read.val_main_v0_apply, Cert.ReferenceIdeal.Read.val_main_v3_apply,
    Cert.ReferenceIdeal.Read.val_main_v2_apply]
  pointwise
  blk_point

/-- The reference's decoding of a row of its codes. -/
theorem ref_decoded (x0 : FVec Ideal S8192x768 .f32) (x1 : FVec Ideal S6144x768 .f32) (x2 : FVec Ideal S6144 .f32)
    (x3 : FVec Ideal S768x6144 .f32) (x4 : FVec Ideal S768 .f32) (r : Fin 8192) (d : Fin 768) :
    Cert.ReferenceIdeal.Read.val_main_v27 (F := Ideal) x0 x1 x2 x3 x4 (ix2 r d) =
      (∑ k : Fin 6144, Cert.ReferenceIdeal.Read.val_main_v22 (F := Ideal) x0 x1 x2 (ix2 r k) * x3 (ix2 d k)) +
        x4 (ix1 d) := by
  rw [Cert.ReferenceIdeal.Read.val_main_v27_apply, Cert.ReferenceIdeal.Read.val_main_v24_apply]
  simp only [Cert.ReferenceIdeal.Read.val_main_v23_apply, Cert.ReferenceIdeal.Read.val_main_v26_apply,
    Cert.ReferenceIdeal.Read.val_main_v25_apply]
  generalize Cert.ReferenceIdeal.Read.val_main_v22 (F := Ideal) x0 x1 x2 = z
  pointwise
  blk_point

/-! ### The blocks of the arguments -/

/-- Where each window's block stands: the batch's windows step through its rows, the weights and biases stay whole. -/
theorem idx : ∀ t : Fin (cfg0 (F := Ideal)).N, win0_0.index t = ![t.val, 0] ∧ win0_1.index t = ![0, 0] ∧
    win0_2.index t = ![0, 0] ∧ win0_3.index t = ![0, 0] ∧ win0_4.index t = ![0, 0] ∧ win0_5.index t = ![t.val, 0] ∧
    win0_6.index t = ![t.val, 0] ∧ t.val < 32 :=
  (by decide +kernel : ∀ t : Fin grid0.N, _)

/-- The array's row that is row `r` of block `t`. -/
def at_ (t : Fin (cfg0 (F := Ideal)).N) (r : Fin 256) : Fin 8192 :=
  ⟨256 * t.val + r.val, by have := (idx t).2.2.2.2.2.2.2; have := r.isLt; omega⟩

theorem emb5 (t : Fin (cfg0 (F := Ideal)).N) (r : Fin 256) (d : Fin 768) :
    ((View.whole main_v3_0).slice (win0_5.rect t)).emb (ix2 r d) = ix2 (at_ t r) d := by
  unfold at_
  blk_ext [idx t]

theorem emb6 (t : Fin (cfg0 (F := Ideal)).N) (r : Fin 256) (k : Fin 6144) :
    ((View.whole main_v3_1).slice (win0_6.rect t)).emb (ix2 r k) = ix2 (at_ t r) k := by
  unfold at_
  blk_ext [idx t]

theorem iblk0 (t : Fin (cfg0 (F := Ideal)).N) (r : Fin 256) (d : Fin 768) :
    iblk m c 0 t (ix2 r d) = a0 m c (ix2 (at_ t r) d) := by
  unfold at_
  blk_ext [iblk, V_arg0, idx t]

theorem iblk1 (t : Fin (cfg0 (F := Ideal)).N) (d : Fin 768) (k : Fin 6144) :
    iblk m c 1 t (ix2 d k) = a3 m c (ix2 d k) := by
  blk_ext [iblk, V_arg3, idx t]

theorem emb2 (t : Fin (cfg0 (F := Ideal)).N) (k : Fin 6144) :
    ((View.whole main_v0).slice (win0_2.rect t)).emb (ix2 0 k) = ix2 0 k := by
  blk_ext [idx t]

theorem iblk2 (t : Fin (cfg0 (F := Ideal)).N) (k : Fin 6144) : iblk m c 2 t (ix2 0 k) = a2 m c (ix1 k) := by
  blk_simp [iblk]
  refine (congrArg (V m c main_v0) (emb2 t k)).trans ?_
  rw [V_v0]
  pointwise

theorem iblk3 (t : Fin (cfg0 (F := Ideal)).N) (k : Fin 6144) (d : Fin 768) :
    iblk m c 3 t (ix2 k d) = a1 m c (ix2 k d) := by
  blk_simp [iblk, V_v1]
  blk_ext [idx t]

theorem emb4 (t : Fin (cfg0 (F := Ideal)).N) (d : Fin 768) :
    ((View.whole main_v2).slice (win0_4.rect t)).emb (ix2 0 d) = ix2 0 d := by
  blk_ext [idx t]

theorem iblk4 (t : Fin (cfg0 (F := Ideal)).N) (d : Fin 768) : iblk m c 4 t (ix2 0 d) = a4 m c (ix1 d) := by
  blk_simp [iblk]
  refine (congrArg (V m c main_v2) (emb4 t d)).trans ?_
  rw [V_v2]
  pointwise

/-! ### The two result arrays -/

/-- The weights are tied: the decoder's matrix is the encoder's, turned. -/
def Tied : Prop := ∀ (d : Fin 768) (k : Fin 6144), a3 m c (ix2 d k) = a1 m c (ix2 k d)

/-- Every row of codes is decided. -/
def RowsDecided : Prop := ∀ r : Fin 8192, Decided fun k => enc (a0 m c) (a1 m c) (a2 m c) (ix2 r k)

variable {m c}

/-- A block's codes are the reference's at the rows the block stands on. -/
theorem pay14_block (ht : Tied m c) (t : Fin (cfg0 (F := Ideal)).N) (r : Fin 256) (k : Fin 6144) :
    k0_pay14 (iblk m c 0 t) (iblk m c 1 t) (iblk m c 2 t) (ix2 r k) =
      enc (a0 m c) (a1 m c) (a2 m c) (ix2 (at_ t r) k) := by
  rw [pay14_apply, enc_apply, iblk2]
  refine congrArg (· + _) (Finset.sum_congr rfl fun d _ => ?_)
  rw [iblk0, iblk1, ht]

theorem sparse_block (ht : Tied m c) (hs : RowsDecided m c) (t : Fin (cfg0 (F := Ideal)).N) (r : Fin 256) (k : Fin 6144) :
    sparse (iblk m c 0 t) (iblk m c 1 t) (iblk m c 2 t) (ix2 r k) =
      Cert.ReferenceIdeal.Read.val_main_v22 (F := Ideal) (a0 m c) (a1 m c) (a2 m c) (ix2 (at_ t r) k) := by
  obtain ⟨T, hT⟩ := (hs (at_ t r)).1
  have e : row (k0_pay14 (iblk m c 0 t) (iblk m c 1 t) (iblk m c 2 t)) r =
      fun k => enc (a0 m c) (a1 m c) (a2 m c) (ix2 (at_ t r) k) := funext fun k => pay14_block ht t r k
  rw [ref_sparse _ _ _ _ _ hT, sparse_decided _ _ _ _ _ (T := T) (by rw [e]; exact hT) (by rw [e]; exact hs (at_ t r)),
    pay14_block ht]

theorem decoded_block (ht : Tied m c) (hs : RowsDecided m c) (t : Fin (cfg0 (F := Ideal)).N) (r : Fin 256) (d : Fin 768) :
    decoded (iblk m c 0 t) (iblk m c 1 t) (iblk m c 2 t) (iblk m c 3 t) (iblk m c 4 t) (ix2 r d) =
      Cert.ReferenceIdeal.Read.val_main_v27 (F := Ideal) (a0 m c) (a1 m c) (a2 m c) (a3 m c) (a4 m c)
        (ix2 (at_ t r) d) := by
  rw [decoded_apply, ref_decoded, iblk4]
  refine congrArg (· + _) (Finset.sum_congr rfl fun k _ => ?_)
  rw [iblk3, sparse_block ht hs, ht]

/-- The sparse codes after the run are the reference's. -/
theorem arr6 (ht : Tied m c) (hs : RowsDecided m c) : (dats m 0 c).arrAt 6 (cfg0 (F := Ideal)).N =
    Cert.ReferenceIdeal.Read.val_main_v22 (F := Ideal) (a0 m c) (a1 m c) (a2 m c) := by
  refine (dats m 0 c).arrAt_eq_of_covers 6 _ (by decide +kernel) fun t hf y => ?_
  blk_simp
  rw [after0_6]
  frame_out
  obtain ⟨r, k, rfl⟩ : ∃ (r : Fin 256) (k : Fin 6144), y = ix2 r k := ⟨y 0, y 1, eq_ix2 y⟩
  rw [emb6]
  exact sparse_block ht hs t r k

/-- The reconstructions after the run are the reference's. -/
theorem arr5 (ht : Tied m c) (hs : RowsDecided m c) : (dats m 0 c).arrAt 5 (cfg0 (F := Ideal)).N =
    Cert.ReferenceIdeal.Read.val_main_v27 (F := Ideal) (a0 m c) (a1 m c) (a2 m c) (a3 m c) (a4 m c) := by
  refine (dats m 0 c).arrAt_eq_of_covers 5 _ (by decide +kernel) fun t hf y => ?_
  blk_simp
  rw [after0_5]
  frame_out
  obtain ⟨r, d, rfl⟩ : ∃ (r : Fin 256) (d : Fin 768), y = ix2 r d := ⟨y 0, y 1, eq_ix2 y⟩
  rw [emb5]
  exact decoded_block ht hs t r d

end Cert.Proof.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.ReferenceIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal.Read
public import proofs.«01_k».proof.Proof.Gen.Pre_tied_and_decided
public import proofs.«01_k».proof.Proof.P.Run
public import proofs.«01_k».proof.Proof.PI.Run
public import proofs.«01_k».proof.Proof.Value.Blocks
public import Idealize.ShloMosaic.Adequacy
public import Idealize.ShloMosaic.Init

@[expose] public section

noncomputable section

namespace Cert.Proof

open Idealize.ShloMosaic Idealize.SL.Sem

theorem frame_kernel : Cert.quiescent_Kernel := fun m ρ _ => P.run_frame (F := Bits) m ρ

theorem frame_kernelIdeal : Cert.quiescent_KernelIdeal := fun m ρ _ => PI.run_frame (F := Ideal) m ρ

/-- The reference is a straight line of host operations and has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_kernelIdeal_pre : Cert.quiescent_KernelIdeal_pre_tied_and_decided :=
  fun m ρ _ => PI.run_frame (F := Ideal) m ρ

theorem frame_reference_pre : Cert.quiescent_ReferenceIdeal_pre_tied_and_decided :=
  fun m ρ _ => frame_reference m ρ trivial

/-- On tied weights and decided rows the kernel's reconstructions and sparse codes are the reference's. -/
theorem algebraic : Cert.algebraic_KernelIdeal_ReferenceIdeal_pre_tied_and_decided := by
  intro m g m' g' hp he
  have hf := fun c => Value.pre_facts _ _ _ _ _ (hp c)
  refine ⟨fun c => Cert.ReferenceIdeal.Read.val_main_v27 (F := Ideal) (Value.a0 m c) (Value.a1 m c) (Value.a2 m c)
      (Value.a3 m c) (Value.a4 m c),
    fun c => Cert.ReferenceIdeal.Read.val_main_v22 (F := Ideal) (Value.a0 m c) (Value.a1 m c) (Value.a2 m c), ?_, ?_⟩
  · refine (θ_run Cert.KernelIdeal.defs _ _).mono (fun r h c => ?_) (PI.run_named (F := Ideal) m g)
    obtain ⟨hy, hz, hargs⟩ := h.1 c
    exact ⟨hy.trans (Value.arr5 (hf c).1 (hf c).2), hz.trans (Value.arr6 (hf c).1 (hf c).2), hargs⟩
  · refine (θ_run Cert.ReferenceIdeal.defs _ _).mono (fun r h c => ?_) (Cert.ReferenceIdeal.Value.run (F := Ideal) m' g')
    obtain ⟨hy, hz, hargs⟩ := h c
    obtain ⟨e0, e1, e2, e3, e4⟩ := he c
    refine ⟨hy.trans ?_, hz.trans ?_, hargs⟩
    · rw [Cert.ReferenceIdeal.Read.val_main_v27_eq, e0, e1, e2, e3, e4]
    · rw [Cert.ReferenceIdeal.Read.val_main_v22_eq, e0, e1, e2]

theorem claim : Cert.Claim :=
  ⟨Cert.Kernel.Gen.facts, Cert.KernelIdeal.Gen.facts, Cert.ReferenceIdeal.Gen.facts, Cert.Pre_tied_and_decided.Gen.facts,
    frame_kernel, frame_kernelIdeal, frame_kernelIdeal_pre, frame_reference, frame_reference_pre, trivial, algebraic⟩

end Cert.Proof

end
